-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .bf16) (main_arg1 : FVec F S1024x64 .bf16) (main_arg2 : IVec S2048x1 32) (main_arg3 : FVec F S8x1024x1024 .bf16) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Pre_routed_ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .bf16) (main_arg1 : FVec F S1024x64 .bf16) (main_arg2 : IVec S2048x1 32) (main_arg3 : FVec F S64x1024x1024 .bf16) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S_ : Shape := ⟨0, ![]⟩
abbrev S2048 : Shape := ⟨1, ![2048]⟩
abbrev S64 : Shape := ⟨1, ![64]⟩
abbrev S1x64 : Shape := ⟨2, ![1, 64]⟩
abbrev S2048x64 : Shape := ⟨2, ![2048, 64]⟩
abbrev S2048x1x1 : Shape := ⟨3, ![2048, 1, 1]⟩
abbrev S1 : Shape := ⟨1, ![1]⟩
abbrev S1x1x1 : Shape := ⟨3, ![1, 1, 1]⟩
abbrev S256x1024 : Shape := ⟨2, ![256, 1024]⟩
abbrev S7 : Shape := ⟨1, ![7]⟩
abbrev S32x1024 : Shape := ⟨2, ![32, 1024]⟩
abbrev S1x1024x1024 : Shape := ⟨3, ![1, 1024, 1024]⟩
abbrev S1024x1024 : Shape := ⟨2, ![1024, 1024]⟩

abbrev nBuf : Space → Nat
  | .hbm => 185
  | .vmem => 3
  | .smem => 0
  | _ => 0

abbrev hbmTy0_0 (i : Nat) : BufTy := match i % 128 with
  | 0 => ⟨S2048x1024, .bf16⟩
  | 1 => ⟨S1024x64, .bf16⟩
  | 2 => ⟨S2048x1, .i32⟩
  | 3 => ⟨S8x1024x1024, .bf16⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S2048, .i32⟩
  | 11 => ⟨S2048x1, .i32⟩
  | 12 => ⟨S64, .i32⟩
  | 13 => ⟨S1x64, .i32⟩
  | 14 => ⟨S2048x64, .i32⟩
  | 15 => ⟨S2048x64, .i32⟩
  | 16 => ⟨S2048x64, .i1⟩
  | 17 => ⟨S2048x64, .i32⟩
  | 18 => ⟨S_, .i32⟩
  | 19 => ⟨S_, .i32⟩
  | 20 => ⟨S2048x64, .i32⟩
  | 21 => ⟨S2048x1, .i32⟩
  | 22 => ⟨S_, .i32⟩
  | 23 => ⟨S2048x1, .i32⟩
  | 24 => ⟨S2048x1, .i1⟩
  | 25 => ⟨S_, .i32⟩
  | 26 => ⟨S2048x1, .i32⟩
  | 27 => ⟨S2048x1, .i32⟩
  | 28 => ⟨S2048x1, .i32⟩
  | 29 => ⟨S2048x1x1, .i32⟩
  | 30 => ⟨S1, .i32⟩
  | 31 => ⟨S_, .i32⟩
  | 32 => ⟨S2048x1x1, .i32⟩
  | 33 => ⟨S2048x1x1, .i1⟩
  | 34 => ⟨S1x1x1, .i32⟩
  | 35 => ⟨S2048x1x1, .i32⟩
  | 36 => ⟨S2048x1x1, .i1⟩
  | 37 => ⟨S2048x1x1, .i1⟩
  | 38 => ⟨S_, .i1⟩
  | 39 => ⟨S2048x1, .i1⟩
  | 40 => ⟨S2048x1, .i32⟩
  | 41 => ⟨S_, .i32⟩
  | 42 => ⟨S2048x1, .i32⟩
  | 43 => ⟨S2048x1, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i1⟩
  | 51 => ⟨S_, .i32⟩
  | 52 => ⟨S_, .i32⟩
  | 53 => ⟨S2048, .i32⟩
  | 54 => ⟨S2048, .i32⟩
  | 55 => ⟨S2048, .i32⟩
  | 56 => ⟨S_, .i32⟩
  | 57 => ⟨S2048, .i32⟩
  | 58 => ⟨S2048, .i1⟩
  | 59 => ⟨S2048, .i32⟩
  | 60 => ⟨S2048, .i32⟩
  | 61 => ⟨S_, .i32⟩
  | 62 => ⟨S2048, .i32⟩
  | 63 => ⟨S2048, .i1⟩
  | 64 => ⟨S2048, .i1⟩
  | 65 => ⟨S_, .i32⟩
  | 66 => ⟨S2048, .i32⟩
  | 67 => ⟨S2048, .i32⟩
  | 68 => ⟨S2048, .i32⟩
  | 69 => ⟨S2048, .i32⟩
  | 70 => ⟨S2048, .i1⟩
  | 71 => ⟨S2048, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048, .i32⟩
  | 79 => ⟨S2048, .i32⟩
  | 80 => ⟨S_, .i32⟩
  | 81 => ⟨S2048, .i32⟩
  | 82 => ⟨S2048, .i1⟩
  | 83 => ⟨S_, .i32⟩
  | 84 => ⟨S2048, .i32⟩
  | 85 => ⟨S2048, .i1⟩
  | 86 => ⟨S_, .i32⟩
  | 87 => ⟨S_, .i1⟩
  | 88 => ⟨S2048, .i1⟩
  | 89 => ⟨S2048, .i1⟩
  | 90 => ⟨S2048, .i1⟩
  | 91 => ⟨S2048, .i32⟩
  | 92 => ⟨S2048, .i32⟩
  | 93 => ⟨S2048, .i32⟩
  | 94 => ⟨S_, .i32⟩
  | 95 => ⟨S2048, .i32⟩
  | 96 => ⟨S2048, .i32⟩
  | 97 => ⟨S2048, .i32⟩
  | 98 => ⟨S_, .i32⟩
  | 99 => ⟨S_, .i32⟩
  | 100 => ⟨S2048, .i32⟩
  | 101 => ⟨S2048, .i32⟩
  | 102 => ⟨S_, .bf16⟩
  | 103 => ⟨S256x1024, .bf16⟩
  | 104 => ⟨S_, .i32⟩
  | 105 => ⟨S2048, .i32⟩
  | 106 => ⟨S2048, .i1⟩
  | 107 => ⟨S_, .i32⟩
  | 108 => ⟨S2048, .i32⟩
  | 109 => ⟨S2048, .i32⟩
  | 110 => ⟨S2048, .i32⟩
  | 111 => ⟨S2048x1, .i32⟩
  | 112 => ⟨S256x1024, .bf16⟩
  | 113 => ⟨S2048x1024, .bf16⟩
  | 114 => ⟨S_, .i32⟩
  | 115 => ⟨S_, .i32⟩
  | 116 => ⟨S2048, .i32⟩
  | 117 => ⟨S2048, .i32⟩
  | 118 => ⟨S2048, .i32⟩
  | 119 => ⟨S_, .i32⟩
  | 120 => ⟨S2048, .i32⟩
  | 121 => ⟨S2048, .i1⟩
  | 122 => ⟨S2048, .i32⟩
  | 123 => ⟨S2048, .i32⟩
  | 124 => ⟨S_, .i32⟩
  | 125 => ⟨S2048, .i32⟩
  | 126 => ⟨S2048, .i1⟩
  | 127 => ⟨S2048, .i1⟩
  | _ => ⟨S2048x1024, .bf16⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S_, .i32⟩
  | 5 => ⟨S2048, .i32⟩
  | 6 => ⟨S2048, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S2048, .i32⟩
  | 14 => ⟨S2048, .i32⟩
  | 15 => ⟨S_, .i32⟩
  | 16 => ⟨S2048, .i32⟩
  | 17 => ⟨S2048, .i1⟩
  | 18 => ⟨S_, .i32⟩
  | 19 => ⟨S2048, .i32⟩
  | 20 => ⟨S2048, .i1⟩
  | 21 => ⟨S_, .i32⟩
  | 22 => ⟨S_, .i1⟩
  | 23 => ⟨S2048, .i1⟩
  | 24 => ⟨S2048, .i1⟩
  | 25 => ⟨S2048, .i1⟩
  | 26 => ⟨S2048, .i32⟩
  | 27 => ⟨S2048, .i32⟩
  | 28 => ⟨S2048, .i32⟩
  | 29 => ⟨S_, .i32⟩
  | 30 => ⟨S2048, .i32⟩
  | 31 => ⟨S2048, .i32⟩
  | 32 => ⟨S2048, .i32⟩
  | 33 => ⟨S2048, .i32⟩
  | 34 => ⟨S_, .i32⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048x1, .i1⟩
  | 43 => ⟨S_, .i32⟩
  | 44 => ⟨S2048, .i32⟩
  | 45 => ⟨S2048, .i1⟩
  | 46 => ⟨S_, .i32⟩
  | 47 => ⟨S2048, .i32⟩
  | 48 => ⟨S2048, .i32⟩
  | 49 => ⟨S2048, .i32⟩
  | 50 => ⟨S2048x1, .i32⟩
  | 51 => ⟨S2048x1024, .bf16⟩
  | 52 => ⟨S_, .bf16⟩
  | 53 => ⟨S2048x1024, .i1⟩
  | 54 => ⟨S2048x1024, .bf16⟩
  | 55 => ⟨S2048x1024, .bf16⟩
  | 56 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S8x1024x1024, .bf16⟩
  | .local _ .vmem, ⟨2, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_c : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_c_4 : Ref sig .tc := ⟨.hbm, 41, rfl⟩
abbrev main_call1_v14 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_4 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v25 : Ref sig .tc := ⟨.hbm, 93, rfl⟩
abbrev main_c_5 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_c_6 : Ref sig .tc := ⟨.hbm, 98, rfl⟩
abbrev main_call4_v0 : Ref sig .tc := ⟨.hbm, 99, rfl⟩
abbrev main_call4_v1 : Ref sig .tc := ⟨.hbm, 100, rfl⟩
abbrev main_v29 : Ref sig .tc := ⟨.hbm, 101, rfl⟩
abbrev main_cst : Ref sig .tc := ⟨.hbm, 102, rfl⟩
abbrev main_v30 : Ref sig .tc := ⟨.hbm, 103, rfl⟩
abbrev main_c_7 : Ref sig .tc := ⟨.hbm, 104, rfl⟩
abbrev main_v31 : Ref sig .tc := ⟨.hbm, 105, rfl⟩
abbrev main_v32 : Ref sig .tc := ⟨.hbm, 106, rfl⟩
abbrev main_c_8 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_c_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_c : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_0 : Ref sig .tc := ⟨.hbm, 128, rfl⟩
abbrev main_call5_v12 : Ref sig .tc := ⟨.hbm, 129, rfl⟩
abbrev main_call5_v13 : Ref sig .tc := ⟨.hbm, 130, rfl⟩
abbrev main_v39 : Ref sig .tc := ⟨.hbm, 131, rfl⟩
abbrev main_c_10 : Ref sig .tc := ⟨.hbm, 132, rfl⟩
abbrev main_v40 : Ref sig .tc := ⟨.hbm, 133, rfl⟩
abbrev main_v41 : Ref sig .tc := ⟨.hbm, 134, rfl⟩
abbrev main_c_11 : Ref sig .tc := ⟨.hbm, 135, rfl⟩
abbrev main_call6_v0 : Ref sig .tc := ⟨.hbm, 136, rfl⟩
abbrev main_call6_c : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_c_1 : Ref sig .tc := ⟨.hbm, 143, rfl⟩
abbrev main_call6_v5 : Ref sig .tc := ⟨.hbm, 144, rfl⟩
abbrev main_call6_v6 : Ref sig .tc := ⟨.hbm, 145, rfl⟩
abbrev main_call6_c_2 : Ref sig .tc := ⟨.hbm, 146, rfl⟩
abbrev main_call6_v7 : Ref sig .tc := ⟨.hbm, 147, rfl⟩
abbrev main_call6_v8 : Ref sig .tc := ⟨.hbm, 148, rfl⟩
abbrev main_call6_c_3 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_v42 : Ref sig .tc := ⟨.hbm, 156, rfl⟩
abbrev main_c_12 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_c_13 : Ref sig .tc := ⟨.hbm, 162, rfl⟩
abbrev main_c_14 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v47 : Ref sig .tc := ⟨.hbm, 169, rfl⟩
abbrev main_v48 : Ref sig .tc := ⟨.hbm, 170, rfl⟩
abbrev main_c_15 : Ref sig .tc := ⟨.hbm, 171, rfl⟩
abbrev main_v49 : Ref sig .tc := ⟨.hbm, 172, rfl⟩
abbrev main_v50 : Ref sig .tc := ⟨.hbm, 173, rfl⟩
abbrev main_c_16 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_cst_17 : Ref sig .tc := ⟨.hbm, 180, rfl⟩
abbrev main_call8_v0 : Ref sig .tc := ⟨.hbm, 181, rfl⟩
abbrev main_call8_v1 : Ref sig .tc := ⟨.hbm, 182, rfl⟩
abbrev main_v56 : Ref sig .tc := ⟨.hbm, 183, rfl⟩
abbrev main_v57 : Ref sig .tc := ⟨.hbm, 184, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_14 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v19 : BitVec 32 := Scalar.muli v2 c256_i32
  let v20 : BitVec 32 := Scalar.addi v19 c0_i32_14
  let v21 : Index := Scalar.indexCast v20
  let c0_15 : Index := 0#32
  ![v21.toNat, 0]
def k0_off2 (d0 : Dev nD) (c0_i32_59 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_58 : BitVec 32 := 8#32
  let v93 : BitVec 32 := Scalar.addi v2 c8_i32_58
  let v94 : BitVec 32 := Scalar.subi v93 c0_i32_59
  let c8_i32_60 : BitVec 32 := 8#32
  let v95 : BitVec 32 := Scalar.remsi v94 c8_i32_60
  let c256_i32_62 : BitVec 32 := 256#32
  let v97 : BitVec 32 := Scalar.muli v95 c256_i32_62
  let c0_i32_67 : BitVec 32 := 0#32
  ![v97.toNat, 0]
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_65 : BitVec 32 := 1#32
  let v98 : BitVec 32 := Scalar.muli v7 c1_i32_65
  let v99 : BitVec 32 := Scalar.addi c0_i32_66 v98
  v99.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_87 : BitVec 32 := 1#32
  let v121 : BitVec 32 := Scalar.muli v7 c1_i32_87
  let v122 : BitVec 32 := Scalar.addi c0_i32_88 v121
  v122.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_109 : BitVec 32 := 1#32
  let v144 : BitVec 32 := Scalar.muli v7 c1_i32_109
  let v145 : BitVec 32 := Scalar.addi c0_i32_110 v144
  v145.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_130 : BitVec 32 := 1#32
  let v167 : BitVec 32 := Scalar.muli v7 c1_i32_130
  let v168 : BitVec 32 := Scalar.addi c0_i32_131 v167
  v168.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_151 : BitVec 32 := 1#32
  let v190 : BitVec 32 := Scalar.muli v7 c1_i32_151
  let v191 : BitVec 32 := Scalar.addi c0_i32_152 v190
  v191.toNat
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_172 : BitVec 32 := 1#32
  let v213 : BitVec 32 := Scalar.muli v7 c1_i32_172
  let v214 : BitVec 32 := Scalar.addi c0_i32_173 v213
  v214.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_193 : BitVec 32 := 1#32
  let v236 : BitVec 32 := Scalar.muli v7 c1_i32_193
  let v237 : BitVec 32 := Scalar.addi c0_i32_194 v236
  v237.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x1024x1024 : Shape := ⟨3, ![2048, 1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S64x1024x1024, .bf16⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S64x1024x1024, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x1024x1024, .f32⟩
  | .hbm, ⟨30, _⟩ => ⟨S2048x1024, .f32⟩
  | .hbm, ⟨31, _⟩ => ⟨S2048x1024, .f32⟩
  | .hbm, ⟨32, _⟩ => ⟨S2048x1, .i32⟩
  | .hbm, ⟨33, _⟩ => ⟨S_, .i32⟩
  | .hbm, ⟨34, _⟩ => ⟨S2048x1, .i32⟩
  | .hbm, ⟨35, _⟩ => ⟨S2048x1, .i1⟩
  | .hbm, ⟨36, _⟩ => ⟨S_, .f32⟩
  | .hbm, ⟨37, _⟩ => ⟨S_, .f32⟩
  | .hbm, ⟨38, _⟩ => ⟨S2048x1024, .i1⟩
  | .hbm, ⟨39, _⟩ => ⟨S2048x1024, .f32⟩
  | .hbm, ⟨40, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Protocol.lean ====
/-
  The gather around the ring of eight devices: its cells, what each landing hands over, what each core owes, the levels.

  Device `c` sends to `nxt c = c + 1` and receives from `prv c = c - 1`, modulo 8. Slab `d` of a device's result staging
  buffer is its 256 rows from `256 d` on: the rows that device `d` computes. `Y` is the whole gathered buffer, the same on
  every device; all that is in flight is slabs of `Y`.

  Barrier cell of `c` (regular, one round, two duties of one unit each, waited for together):
    duty `false`, signalled by `nxt c`: the seven slabs of `nxt c`'s staging buffer that `c` is going to write, at any
      contents, and that round 0 of each of `nxt c`'s receive cells is reached;
    duty `true`, signalled by `prv c`: nothing.
  Send cell `h` of `c` (DMA, one round, one duty of `N`): `c`'s own copy of hop `h`, once read out, hands back the slab
    `c - h` of `c` at `Y`.
  Receive cell `h` of `c` (DMA, one round, one duty of `N`): `prv c`'s copy of hop `h`, once landed, hands `c` its own slab
    `c - h - 1` at `Y`.

  At launch `c` owes `N` to each receive cell of `nxt c` and one unit to the barrier cells of both its neighbours. The
  barrier cells are at level 1, receive cell `h` at level `h + 2`, every other cell at level 0; a core waits on its
  barrier cell owing receive credits only, and on its cells of hop `h` owing those of later hops only.
-/
module

public import proofs.«01_k».proof.Defs
public import Idealize.ShloMosaic.Lib.Pipeline.Launch
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic
public import proofs.«01_k».proof.Proof.Gen.KernelIdeal
public import proofs.«01_k».proof.Proof.Gen.KernelIdeal.Launch

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds and the ring's -/

/-- The pipeline library's rounds beside the ring's, whose duties are named by `Bool`. -/
abbrev UU : Type := URounds (GSem nD τ sig) Unit × URounds (GSem nD τ sig) Bool

local notation "𝕄" => MT nD τ sig Unit (Elt F) ℕ UU ℕ

/-- The pipeline library's rounds inside the machine's algebra, -/
def EP : Emb (URounds (GSem nD τ sig) Unit) (MT nD τ sig Unit (Elt F) ℕ UU ℕ) :=
  (Emb.inl : Emb (URounds (GSem nD τ sig) Unit) UU).trans
    (uEmb (nD := nD) (sig := sig) (Ix := Unit) (Val := Elt F) (Name := ℕ) (U := UU) (Lvl := ℕ)).toEmb
/-- and the ring's. -/
def ER : Emb (URounds (GSem nD τ sig) Bool) (MT nD τ sig Unit (Elt F) ℕ UU ℕ) :=
  (Emb.inr : Emb (URounds (GSem nD τ sig) Bool) UU).trans
    (uEmb (nD := nD) (sig := sig) (Ix := Unit) (Val := Elt F) (Name := ℕ) (U := UU) (Lvl := ℕ)).toEmb

omit [FloatOps F] in
instance EP_landsIn : (EP : Emb (URounds (GSem nD τ sig) Unit) 𝕄).LandsIn (upEmb : UEmb _ 𝕄) := by unfold EP; infer_instance
omit [FloatOps F] in
instance ER_landsIn : (ER : Emb (URounds (GSem nD τ sig) Bool) 𝕄).LandsIn (upEmb : UEmb _ 𝕄) := by unfold ER; infer_instance

/-! ## The ring -/

set_option backward.proofsInPublic true in
/-- The device `c` sends to, -/
def nxt (c : Dev nD) : Dev nD := ⟨(c.val + 1) % 8, Nat.mod_lt _ (by decide)⟩
set_option backward.proofsInPublic true in
/-- the device that sends to `c`, -/
def prv (c : Dev nD) : Dev nD := ⟨(c.val + 7) % 8, Nat.mod_lt _ (by decide)⟩
set_option backward.proofsInPublic true in
/-- and the device `n` steps before `c`. -/
def org (c : Dev nD) (n : ℕ) : Dev nD := ⟨(c.val + 8 - n) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem org_zero (c : Dev nD) : org c 0 = c := by revert c; decide
theorem org_nxt (c : Dev nD) (h : Fin 7) : org (nxt c) (h.val + 1) = org c h.val := by revert c h; decide
theorem org_succ (c : Dev nD) (h : Fin 7) : org (prv c) h.val = org c (h.val + 1) := by revert c h; decide

/-- The ring as a permutation of the devices, forwards, -/
def ring : Dev nD ≃ Dev nD := ⟨nxt, prv, prv_nxt, nxt_prv⟩
/-- and backwards. -/
def ringBack : Dev nD ≃ Dev nD := ⟨prv, nxt, nxt_prv, prv_nxt⟩

/-! ## Cells -/

/-- The barrier semaphore of the kernel's collective. -/
abbrev barS : Sem sig := (SemArray.scalar (sig.barrier 0 rfl) : Sems sig S_).sem

theorem inb7 (h : Fin 7) : ∀ a, (![h.val] : Fin 1 → ℕ) a + S1.size a ≤ S7.size a := by revert h; decide
/-- The semaphore of hop `h`'s read-out, -/
abbrev sendS (h : Fin 7) : DmaSem sig := ((cc0_scratch0.slice (Rect.unit (s := S7) ![h.val] S1.size (inb7 h))).squeeze S_ squeezes_S1_S_).sem
/-- and of its landing. -/
abbrev recvS (h : Fin 7) : DmaSem sig := ((cc0_scratch1.slice (Rect.unit (s := S7) ![h.val] S1.size (inb7 h))).squeeze S_ squeezes_S1_S_).sem

/-- The kernel's own fourteen DMA semaphores: the seven of the read-outs, then the seven of the landings. -/
def dmaS (k : Fin 14) : DmaSem sig := ⟨k.val + 3, by have := k.isLt; show k.val + 3 < 17; omega⟩
theorem dmaS_val (k : Fin 14) : (dmaS k).val = k.val + 3 := rfl

/-- Hop `h`'s read-out among the fourteen, -/
abbrev sIx (h : Fin 7) : Fin 14 := ⟨h.val, by omega⟩
/-- and its landing. -/
abbrev rIx (h : Fin 7) : Fin 14 := ⟨h.val + 7, by omega⟩

theorem sendS_eq (h : Fin 7) : sendS h = dmaS (sIx h) := by revert h; decide
theorem recvS_eq (h : Fin 7) : recvS h = dmaS (rIx h) := by revert h; decide

abbrev barCell (c : Dev nD) : GSem nD τ sig := ((c : Thread nD τ), .reg barS)
abbrev dmaCell (c : Dev nD) (k : Fin 14) : GSem nD τ sig := ((c : Thread nD τ), .dma (dmaS k))

theorem dmaS_injective : Function.Injective dmaS := fun a b h => Fin.ext (by
  have := congrArg Fin.val h
  rw [dmaS_val, dmaS_val] at this
  omega)
theorem dma_ne_bar (k : DmaSem sig) : (SemLoc.dma k : SemLoc sig) ≠ .reg barS := fun h => by cases h

/-! ## The staging buffer and its slabs -/

/-- The result's staging buffer, whole. -/
abbrev oM : Memref sig .tc .vmem S2048x1024 .bf16 := Memref.whole cc0_stg2_0
/-- `c`'s copy of it. -/
abbrev oLoc (c : Dev nD) : Loc nD τ sig := (c : Thread nD τ).loc cc0_stg2_0
/-- What it holds. -/
abbrev OBuf (F : FTy → Type) : Type := (cc0_stg2_0 : Ref sig .tc).ty.Contents (Elt F)

theorem slab_inb (d : Dev nD) : ∀ a, (![256 * d.val, 0] : Fin 2 → ℕ) a + S256x1024.size a ≤ S2048x1024.size a := by revert d; decide
/-- Slab `d`'s rectangle, -/
abbrev slabR (d : Dev nD) : Rect S2048x1024 := Rect.unit (s := S2048x1024) ![256 * d.val, 0] S256x1024.size (slab_inb d)
/-- and its indices: the rows from `256 d` to `256 d + 255`. -/
def slabSet (d : Dev nD) : Finset S2048x1024.Idx := (slabR d).set

theorem mem_slabSet (d : Dev nD) (i : S2048x1024.Idx) : i ∈ slabSet d ↔ 256 * d.val ≤ (i 0).val ∧ (i 0).val < 256 * d.val + 256 := by
  unfold slabSet
  rw [Rect.mem_set_unit, Fin.forall_fin_two]
  have h1 : (i 1).val < 1024 := (i 1).isLt
  constructor
  · rintro ⟨⟨h, h'⟩, -⟩; exact ⟨h, h'⟩
  · rintro ⟨h, h'⟩; exact ⟨⟨h, h'⟩, Nat.zero_le _, by simpa using h1⟩

/-- Ownership of slab `d` of device `c`'s staging buffer, at `f`. -/
def slabPts (c d : Dev nD) (f : OBuf F) : sProp 𝕄 := oLoc c ↦[slabSet d]{fullShare} f

omit [FloatOps F] in
instance slabPts_storable (c d : Dev nD) (f : OBuf F) : BI.Storable (upEmb : UEmb _ 𝕄) (slabPts c d f) := by
  unfold slabPts; infer_instance

theorem slabSet_disjoint {d d' : Dev nD} (h : d ≠ d') : Disjoint (slabSet d) (slabSet d') := by
  rw [Finset.disjoint_left]
  intro i hi hi'
  rw [mem_slabSet] at hi hi'
  exact h (Fin.ext (by omega))

theorem slabSet_cover : (Finset.univ : Finset (Dev nD)).biUnion slabSet = Finset.univ := by
  ext i
  simp only [Finset.mem_biUnion, Finset.mem_univ, true_and, iff_true]
  have h : (i 0).val < 2048 := (i 0).isLt
  exact ⟨⟨(i 0).val / 256, by show _ < 8; omega⟩, (mem_slabSet _ _).mpr ⟨by show 256 * ((i 0).val / 256) ≤ _; omega,
    by show _ < 256 * ((i 0).val / 256) + 256; omega⟩⟩

omit [FloatOps F] in
/-- The whole staging buffer is its eight slabs. -/
theorem slabs_eq (c : Dev nD) (f : OBuf F) :
    (oLoc c ↦{fullShare} f : sProp 𝕄) = bigSep Finset.univ fun d : Dev nD => slabPts c d f := by
  unfold slabPts
  rw [← pointsTo_biUnion (ℓ := oLoc c) (q := fullShare) (f := f) Finset.univ slabSet (fun _ _ _ _ h => slabSet_disjoint h)]
  rw [slabSet_cover]

/-- What one slab's copy credits. -/
abbrev N : ℕ := ((oM.slice (slabR 0) (fun _ => rfl) : Memref sig .tc .vmem S256x1024 .bf16)).view.dmaCredit
theorem N_pos : 0 < N := View.dmaCredit_pos _ (by decide)

/-! ## The schedule -/

variable (Y : OBuf F)

/-- What `nxt c`'s signal hands `c`: the slabs of `nxt c` that `c` writes, and that `nxt c`'s receive cells are at their
    first round. -/
def barPay (c : Dev nD) : sProp 𝕄 :=
  iprop((bigSep Finset.univ fun h : Fin 7 => iprop(∃ f, slabPts (nxt c) (org c h.val) f))
    ∗ bigSep Finset.univ fun h : Fin 7 => reached ER (dmaCell (nxt c) (rIx h)) 0)

/-- How many steps before `c` the slab was computed that the landing on `c`'s DMA semaphore `k` hands over. -/
def steps (k : ℕ) : ℕ := if k < 10 then k - 3 else k - 9

/-- What a duty of a cell hands over. -/
def pay (c : Dev nD) (d : Bool) : SemLoc sig → sProp 𝕄
  | .reg _ => if d then iprop(emp) else barPay c
  | .dma k => slabPts c (org c (steps k.val)) Y

/-- One round on every cell of the protocol. -/
def ringRd : Rounds.Schedule (GSem nD τ sig) Bool 𝕄 where
  duties g r := if r = 0 ∧ g.1.2 = .tc then (if g.2 = .reg barS then Finset.univ else {false}) else ∅
  unitless _ := False
  amount g _ _ := if g.2 = .reg barS then 1 else N
  payload g _ d := pay Y g.1.1 d g.2
  amount_pos g _ _ _ := by
    by_cases h : g.2 = .reg barS
    · rw [if_pos h]; exact Nat.one_pos
    · rw [if_neg h]; exact N_pos

omit [FloatOps F] in
instance ringRd_storable (g : GSem nD τ sig) (r : ℕ) (d : Bool) : BI.Storable (upEmb : UEmb _ 𝕄) ((ringRd Y).payload g r d) := by
  show BI.Storable upEmb (pay Y g.1.1 d g.2)
  unfold pay
  cases g.2 <;> dsimp only
  · unfold barPay
    split <;> infer_instance
  · infer_instance

section Sched

variable (c : Dev nD) (k : Fin 14)

omit [FloatOps F]

theorem duties_bar : (ringRd Y).duties (barCell c) 0 = Finset.univ := by
  dsimp only [ringRd]; rw [if_pos ⟨rfl, rfl⟩, if_pos rfl]
theorem duties_dma : (ringRd Y).duties (dmaCell c k) 0 = {false} := by
  dsimp only [ringRd]; rw [if_pos ⟨rfl, rfl⟩, if_neg (dma_ne_bar _)]
theorem duties_later (g : GSem nD τ sig) : ∀ r, 1 ≤ r → (ringRd Y).duties g r = ∅ :=
  fun r hr => by dsimp only [ringRd]; rw [if_neg (fun h => by omega)]
theorem amount_bar (d : Bool) : (ringRd Y).amount (barCell c) 0 d = 1 := by dsimp only [ringRd]; exact if_pos rfl
theorem amount_dma (d : Bool) : (ringRd Y).amount (dmaCell c k) 0 d = N := by dsimp only [ringRd]; exact if_neg (dma_ne_bar _)
theorem expect_bar : (ringRd Y).expect (barCell c) 0 = 2 := by
  unfold Schedule.expect Schedule.amountOf
  rw [duties_bar, Finset.sum_congr rfl fun d _ => amount_bar Y c d]; rfl
theorem expect_dma : (ringRd Y).expect (dmaCell c k) 0 = N := by
  unfold Schedule.expect Schedule.amountOf; rw [duties_dma, Finset.sum_singleton, amount_dma]
theorem payload_bar_right : (ringRd Y).payload (barCell c) 0 false = barPay c := rfl
theorem payload_bar_left : (ringRd Y).payload (barCell c) 0 true = iprop(emp) := rfl
theorem payload_send (h : Fin 7) : (ringRd Y).payload (dmaCell c (sIx h)) 0 false = slabPts c (org c h.val) Y := by
  show slabPts c (org c (steps (h.val + 3))) Y = _
  unfold steps; rw [if_pos (by omega)]; rfl
theorem payload_recv (h : Fin 7) : (ringRd Y).payload (dmaCell c (rIx h)) 0 false = slabPts c (org c (h.val + 1)) Y := by
  show slabPts c (org c (steps (h.val + 7 + 3))) Y = _
  unfold steps; rw [if_neg (by omega)]; rfl

/-- Both neighbours' payments on the barrier cell together. -/
theorem rest_bar : bigSep ((ringRd Y).duties (barCell c) 0 \ ∅) (fun d => (ringRd Y).payload (barCell c) 0 d) ⊢ (barPay c : sProp 𝕄) := by
  rw [Finset.sdiff_empty, duties_bar]
  exact bigSep_elim (Finset.mem_univ false)
theorem rest_send (h : Fin 7) : bigSep ((ringRd Y).duties (dmaCell c (sIx h)) 0 \ ∅) (fun d => (ringRd Y).payload (dmaCell c (sIx h)) 0 d)
    = slabPts c (org c h.val) Y := by
  rw [Finset.sdiff_empty, duties_dma, bigSep_singleton, payload_send]
theorem rest_recv (h : Fin 7) : bigSep ((ringRd Y).duties (dmaCell c (rIx h)) 0 \ ∅) (fun d => (ringRd Y).payload (dmaCell c (rIx h)) 0 d)
    = slabPts c (org c (h.val + 1)) Y := by
  rw [Finset.sdiff_empty, duties_dma, bigSep_singleton, payload_recv]

end Sched

/-! ## What is owed; the levels -/

/-- What `c` owes the receive cells of `nxt c` from hop `n` on. -/
def owedFrom (c : Dev nD) (n : ℕ) : CellTallies nD τ sig Unit :=
  ∑ h ∈ Finset.univ.filter (fun h : Fin 7 => n ≤ h.val), tallyAt (dmaCell (nxt c) (rIx h)) () N

/-- What `c` owes at launch. -/
def O₀ (c : Dev nD) : CellTallies nD τ sig Unit :=
  owedFrom c 0 + tallyAt (barCell (nxt c)) () 1 + tallyAt (barCell (prv c)) () 1

theorem owedFrom_step (c : Dev nD) (h : Fin 7) :
    owedFrom c h.val = owedFrom c (h.val + 1) + tallyAt (dmaCell (nxt c) (rIx h)) () N := by
  unfold owedFrom
  rw [show (Finset.univ.filter fun h' : Fin 7 => h.val ≤ h'.val) = insert h (Finset.univ.filter fun h' : Fin 7 => h.val + 1 ≤ h'.val) from by
    revert h; decide, Finset.sum_insert (by simp), add_comm]

theorem owedFrom_end (c : Dev nD) : owedFrom c 7 = 0 := by
  unfold owedFrom
  rw [show (Finset.univ.filter fun h : Fin 7 => 7 ≤ h.val) = ∅ from by decide, Finset.sum_empty]

theorem owedFrom_pos {c : Dev nD} {n : ℕ} {g : GSem nD τ sig} {u : Unit} (hg : 0 < owedFrom c n g u) :
    ∃ h : Fin 7, n ≤ h.val ∧ g = dmaCell (nxt c) (rIx h) := by
  by_contra hne
  refine absurd hg ?_
  rw [show owedFrom c n g u = 0 from ?_]; · exact Nat.lt_irrefl 0
  unfold owedFrom
  rw [Finset.sum_apply, Finsupp.finset_sum_apply]
  refine Finset.sum_eq_zero fun h hh => ?_
  rw [tallyAt_apply, if_neg]
  exact fun e => hne ⟨h, (Finset.mem_filter.mp hh).2, e.1⟩

/-- The index every cell of a core is waited at. -/
def L (g : GSem nD τ sig) : Finset Unit := if g.1.2 = .tc then {()} else ∅
/-- A semaphore's level. -/
def lvS : SemLoc sig → ℕ
  | .reg s => if s = barS then 1 else 0
  | .dma k => if 10 ≤ k.val then k.val - 8 else 0
/-- A cell's level. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  show (if barS = barS then 1 else 0) = 1
  exact if_pos rfl
theorem lv_send (c : Dev nD) (h : Fin 7) (u : Unit) : lv (dmaCell c (sIx h)) u = 0 := by
  show (if 10 ≤ h.val + 3 then _ else 0) = 0
  exact if_neg (by omega)
theorem lv_recv (c : Dev nD) (h : Fin 7) (u : Unit) : lv (dmaCell c (rIx h)) u = h.val + 2 := by
  show (if 10 ≤ h.val + 7 + 3 then h.val + 7 + 3 - 8 else 0) = _
  rw [if_pos (by omega)]; omega

omit [FloatOps F] in
/-- A core may wait on any of its cells while it owes receive credits only, all of them above that cell. -/
theorem mayWait_of_lt (c : Dev nD) (sm : SemLoc sig) (n : ℕ) (hn : lvS sm < n + 2) :
    (levAts L lv : sProp 𝕄) ⊢ MayWait (c : Thread nD τ) sm () (owedFrom c n) :=
  MayOwe.of_cut (L := L) (lev := lv) (n + 1) (fun p hp => by rw [Finset.mem_singleton.mp hp, L_tc]; exact Finset.mem_singleton_self _)
    (fun g u hg => by obtain ⟨h, -, rfl⟩ := owedFrom_pos hg; rw [L_tc]; exact Finset.mem_singleton_self _)
    (fun p hp => by rw [Finset.mem_singleton.mp hp]; dsimp only [lv]; omega)
    (fun g u hg => by obtain ⟨h, hh, rfl⟩ := owedFrom_pos hg; rw [lv_recv]; omega)

/-! ## The ghost state -/

/-- The names the launch gives the invariants. -/
abbrev Names := GSem nD τ sig → ℕ

/-- The invariants that device `c` opens: its own cells', its neighbours' barrier cells' and the receive cells' of `nxt c`. -/
def invs (K : Names) (c : Dev nD) : sProp 𝕄 :=
  iprop(cellInv ER (ringRd Y) (K (barCell c)) (barCell c)
    ∗ cellInv ER (ringRd Y) (K (barCell (nxt c))) (barCell (nxt c))
    ∗ cellInv ER (ringRd Y) (K (barCell (prv c))) (barCell (prv c))
    ∗ (bigSep Finset.univ fun k : Fin 14 => cellInv ER (ringRd Y) (K (dmaCell c k)) (dmaCell c k))
    ∗ (bigSep Finset.univ fun k : Fin 14 => cellInv ER (ringRd Y) (K (dmaCell (nxt c) k)) (dmaCell (nxt c) k))
    ∗ reached ER (barCell (nxt c)) 0 ∗ reached ER (barCell (prv c)) 0)

omit [FloatOps F] in
instance invs_persistent (K : Names) (c : Dev nD) : BI.Persistent (invs Y K c) := by unfold invs; infer_instance

/-- The tokens of the duties that device `c` pays. -/
def tokens (c : Dev nD) : sProp 𝕄 :=
  iprop(dutyTok ER (barCell (nxt c)) 0 true ∗ dutyTok ER (barCell (prv c)) 0 false
    ∗ (bigSep Finset.univ fun h : Fin 7 => dutyTok ER (dmaCell c (sIx h)) 0 false)
    ∗ (bigSep Finset.univ fun h : Fin 7 => dutyTok ER (dmaCell (nxt c) (rIx h)) 0 false))

/-- The credits that device `c` waits with and does not make itself. -/
def credits (c : Dev nD) : sProp 𝕄 :=
  iprop(cred (tallyAt (barCell c) () 2) ∗ bigSep Finset.univ fun h : Fin 7 => cred (tallyAt (dmaCell c (rIx h)) () N))

/-- What device `c` carries from launch to the kernel: its position on its barrier cell, the right to open its DMA cells,
    its tokens and its credits. -/
def start (c : Dev nD) : sProp 𝕄 :=
  iprop(∃ K, invs Y K c ∗ atPos ER (barCell c) 0 ∅ 0 ∗ (bigSep Finset.univ fun k : Fin 14 => openTok ER (dmaCell c k))
    ∗ tokens c ∗ credits c)

/-- The same once its DMA cells are open. -/
def opened (K : Names) (c : Dev nD) : sProp 𝕄 :=
  iprop(invs Y K c ∗ atPos ER (barCell c) 0 ∅ 0
    ∗ (bigSep Finset.univ fun k : Fin 14 => atPos ER (dmaCell c k) 0 ∅ 0)
    ∗ (bigSep Finset.univ fun k : Fin 14 => reached ER (dmaCell c k) 0)
    ∗ tokens c ∗ credits c)

omit [FloatOps F] in
/-- A cell whose one round is over closes: its counter is the core's again, at zero. -/
theorem close (κ : ℕ) (g : GSem nD τ sig) :
    iprop(cellInv ER (ringRd Y) κ g ∗ atPos ER g (0 + 1) ∅ 0) ⊢ (|={Set.univ}=> semVal g 0 : sProp 𝕄) :=
  Rounds.cell_close ER (ringRd Y) (Set.mem_univ κ) id (duties_later Y g)

abbrev 𝒱₀ : Variants := Variants.none

end Cert.Proof

end
-- ==== Proof.Compute.lean ====
/-
  The compute phase: one expert's step of the body (load its 32 rows and its matrix, store the product's rows), and the
  gathered buffer whose slab `c` device `c` has computed once its eight steps are done.
-/
module

public import proofs.«01_k».proof.Proof.Protocol
public import proofs.«01_k».proof.Proof.Gen.KernelIdeal.Skeleton
public import Idealize.ShloMosaic.Lib.Pointwise.Index

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staging buffer of the token rows, and of the expert matrices. -/
abbrev xM : Memref sig .tc .vmem S256x1024 .bf16 := Memref.whole cc0_stg0_0
abbrev wM : Memref sig .tc .vmem S8x1024x1024 .bf16 := Memref.whole cc0_stg1_0
/-- What they hold. -/
abbrev XBuf (F : FTy → Type) : Type := (cc0_stg0_0 : Ref sig .tc).ty.Contents (Elt F)
abbrev WBuf (F : FTy → Type) : Type := (cc0_stg1_0 : Ref sig .tc).ty.Contents (Elt F)

theorem x_inb (e : Fin 8) : ∀ a, (![32 * e.val, 0] : Fin 2 → ℕ) a + S32x1024.size a ≤ S256x1024.size a := by revert e; decide
theorem w_inb (e : Fin 8) : ∀ a, (![e.val, 0, 0] : Fin 3 → ℕ) a + S1x1024x1024.size a ≤ S8x1024x1024.size a := by revert e; decide

/-- Expert `e`'s 32 rows of the token buffer, -/
abbrev xR (e : Fin 8) : Rect S256x1024 := Rect.unit (s := S256x1024) ![32 * e.val, 0] S32x1024.size (x_inb e)
/-- and its matrix. -/
abbrev wR (e : Fin 8) : Rect S8x1024x1024 := Rect.unit (s := S8x1024x1024) ![e.val, 0, 0] S1x1024x1024.size (w_inb e)

/-- Expert `e`'s product on a device whose token buffer is `X` and whose matrices are `W`. -/
def product (X : XBuf F) (W : WBuf F) (e : Fin 8) : FVec F S32x1024 .bf16 :=
  k0_pay1 (xM.view.readAt (Elt F) (xR e).toLoadRect X) (wM.view.readAt (Elt F) (wR e).toLoadRect W)

variable (X : Dev nD → XBuf F) (W : Dev nD → WBuf F)

/-- The gathered buffer: rows `256 d + 32 e` to `256 d + 32 e + 31` are expert `e`'s product on device `d`. -/
def gathered : OBuf F := fun i =>
  product (X ⟨(i 0).val / 256, by have : (i 0).val < 2048 := (i 0).isLt; show _ < 8; omega⟩)
    (W ⟨(i 0).val / 256, by have : (i 0).val < 2048 := (i 0).isLt; show _ < 8; omega⟩)
    ⟨(i 0).val % 256 / 32, by omega⟩ (ix2 ⟨(i 0).val % 32, Nat.mod_lt _ (by decide)⟩ ⟨(i 1).val, (i 1).isLt⟩)

/-- `f` holds the gathered buffer on the rows of slab `c` that the first `e` experts write. -/
def DoneTo (c : Dev nD) (e : ℕ) (f : OBuf F) : Prop :=
  ∀ i ∈ slabSet c, (i 0).val < 256 * c.val + 32 * e → f i = gathered X W i

theorem DoneTo.zero (c : Dev nD) (f : OBuf F) : DoneTo X W c 0 f := fun i hi h => by
  rw [mem_slabSet] at hi; omega

theorem DoneTo.all {c : Dev nD} {f : OBuf F} (h : DoneTo X W c 8 f) : ∀ i ∈ slabSet c, f i = gathered X W i := fun i hi =>
  h i hi (by rw [mem_slabSet] at hi; omega)

theorem gathered_at (c : Dev nD) (e : Fin 8) (i : S2048x1024.Idx) (r : Fin 32) (hr : (i 0).val = 256 * c.val + 32 * e.val + r.val) :
    gathered X W i = product (X c) (W c) e (ix2 r ⟨(i 1).val, (i 1).isLt⟩) := by
  have he := e.isLt
  have hr' := r.isLt
  unfold gathered
  have h1 : (⟨(i 0).val / 256, by have : (i 0).val < 2048 := (i 0).isLt; show _ < 8; omega⟩ : Dev nD) = c := Fin.ext (by
    show (i 0).val / 256 = c.val; omega)
  have h2 : (⟨(i 0).val % 256 / 32, by omega⟩ : Fin 8) = e := Fin.ext (by show (i 0).val % 256 / 32 = e.val; omega)
  have h3 : (⟨(i 0).val % 32, Nat.mod_lt _ (by decide)⟩ : Fin 32) = r := Fin.ext (by show (i 0).val % 32 = r.val; omega)
  rw [h1, h2, h3]

/-- One expert's store carries its rows over to the gathered buffer. -/
theorem DoneTo.step {c : Dev nD} {e : Fin 8} {f : OBuf F} (h : DoneTo X W c e.val f)
    {off : Fin 2 → ℕ} (hoff : off = ![256 * c.val + 32 * e.val, 0]) (inb : ∀ a, off a + S32x1024.size a ≤ S2048x1024.size a) :
    DoneTo X W c (e.val + 1) ((oM.access (Rect.unit (s := S2048x1024) off S32x1024.size inb)).write (Elt F) f (product (X c) (W c) e) Finset.univ) := by
  subst hoff
  intro i hi hlt
  by_cases hge : 256 * c.val + 32 * e.val ≤ (i 0).val
  · have hr : (i 0).val - (256 * c.val + 32 * e.val) < 32 := by omega
    rw [gathered_at X W c e i ⟨(i 0).val - (256 * c.val + 32 * e.val), hr⟩ (by show (i 0).val = _ + ((i 0).val - _); omega)]
    have hemb : i = (oM.access (Rect.unit (s := S2048x1024) ![256 * c.val + 32 * e.val, 0] S32x1024.size inb)).emb
        (ix2 ⟨(i 0).val - (256 * c.val + 32 * e.val), hr⟩ ⟨(i 1).val, (i 1).isLt⟩) := by
      funext a
      refine Fin.ext ?_
      fin_cases a
      · show (i 0).val = 256 * c.val + 32 * e.val + 1 * ((i 0).val - (256 * c.val + 32 * e.val)); omega
      · show (i 1).val = 0 + 1 * (i 1).val; omega
    conv_lhs => rw [hemb]
    rw [View.write_emb_of_mem _ _ (Finset.mem_univ _)]
    rfl
  · rw [View.write_of_not_mem, h i hi (by omega)]
    rw [View.setOn_univ]
    intro hmem
    have hmem' : i ∈ (Rect.unit (s := S2048x1024) ![256 * c.val + 32 * e.val, 0] S32x1024.size inb).set := by
      have h := hmem
      unfold Memref.access at h
      rwa [View.set_slice_whole] at h
    rw [Rect.mem_set_unit] at hmem'
    exact hge (hmem' 0).1

omit [FloatOps F] in
theorem row_subset (c : Dev nD) (e : Fin 8) {off : Fin 2 → ℕ} (hoff : off = ![256 * c.val + 32 * e.val, 0])
    (inb : ∀ a, off a + S32x1024.size a ≤ S2048x1024.size a) :
    (oM.access (Rect.unit (s := S2048x1024) off S32x1024.size inb)).set ⊆ slabSet c := by
  subst hoff
  unfold Memref.access
  rw [View.set_slice_whole]
  intro i hi
  rw [Rect.mem_set_unit] at hi
  have h := hi 0
  have h1 : 256 * c.val + 32 * e.val ≤ (i 0).val := h.1
  have h2 : (i 0).val < 256 * c.val + 32 * e.val + 32 := h.2
  rw [mem_slabSet]
  have := e.isLt
  omega

/-- The token rows and the matrices of device `c`, in their staging buffers. -/
def inputs (c : Dev nD) : sProp 𝕄 :=
  iprop((((c : Thread nD τ).loc cc0_stg0_0) ↦{fullShare} X c) ∗ (((c : Thread nD τ).loc cc0_stg1_0) ↦{fullShare} W c))

/-- Slab `c` of `c`'s staging buffer with the first `e` experts' rows done. -/
def partly (c : Dev nD) (e : ℕ) : sProp 𝕄 := iprop(∃ f, ⌜DoneTo X W c e f⌝ ∗ slabPts c c f)

theorem partly_zero (c : Dev nD) : iprop(∃ f, slabPts c c f) ⊢ (partly X W c 0 : sProp 𝕄) := by
  unfold partly
  iintro ⟨%f, H⟩
  iexists f
  isplitr; · ipureintro; exact DoneTo.zero X W c f
  iexact H

theorem partly_all (c : Dev nD) : (partly X W c 8 : sProp 𝕄) ⊢ slabPts c c (gathered X W) := by
  unfold partly slabPts
  iintro ⟨%f, %hf, H⟩
  iapply (Entails.of_eq (pointsTo_congr (DoneTo.all X W hf))) $$ H

/-- ONE EXPERT'S STEP: the loads of its rows and its matrix, a load of the rows about to be written whose value nobody reads,
    and the store of the product. -/
theorem wp_expert (c : Dev nD) (e : Fin 8) (n n' : ℕ) (hn : n = e.val) (hn' : n' = e.val + 1) {ox : Fin 2 → ℕ} {ow : Fin 3 → ℕ} {oo : Fin 2 → ℕ}
    {ix : ∀ a, ox a + S32x1024.size a ≤ S256x1024.size a} {iw : ∀ a, ow a + S1x1024x1024.size a ≤ S8x1024x1024.size a}
    {io : Vec F S32x1024 .bf16 → Vec F S1x1024x1024 .bf16 → ∀ a, oo a + S32x1024.size a ≤ S2048x1024.size a}
    (hox : ox = ![32 * e.val, 0]) (how : ow = ![e.val, 0, 0]) (hoo : oo = ![256 * c.val + 32 * e.val, 0])
    {pay : Vec F S32x1024 .bf16 → Vec F S1x1024x1024 .bf16 → FVec F S32x1024 .bf16} (hpay : pay = k0_pay1)
    {lx} {lw : Vec F S32x1024 .bf16 → _}
    {lo : ∀ v v', oM.view.LoadsAt (Rect.unit (s := S2048x1024) oo S32x1024.size (io v v')).toLoadRect}
    {hx : ∀ v v' (_ : Vec F S32x1024 .bf16), (oM.access (Rect.unit (s := S2048x1024) oo S32x1024.size (io v v'))).Stores Finset.univ}
    {hm : ∀ v v' (_ : Vec F S32x1024 .bf16), Finset.univ = Finset.univ ∨ ∀ a, (Rect.unit (s := S2048x1024) oo S32x1024.size (io v v')).stride a = 1}
    {α : Type} {Q : α → sProp 𝕄}
    {k : Vec F S32x1024 .bf16 → Vec F S1x1024x1024 .bf16 → Vec F S32x1024 .bf16 → PUnit → Prog (TpuEff nD τ sig (Elt F) Λ₀ .tc) α} :
    iprop(inputs X W c ∗ partly X W c n)
      ⊢ iprop((∀ v v' v'', (inputs X W c ∗ partly X W c n') -∗ wp frame (wpE (defs₀ (F := F)) 𝒱₀ c none) Set.univ (k v v' v'' ⟨⟩) Q)
        -∗ wp frame (wpE (defs₀ (F := F)) 𝒱₀ c none) Set.univ
          (.op (.load xM (Rect.unit (s := S256x1024) ox S32x1024.size ix).toLoadRect lx) fun v =>
            .op (.load wM (Rect.unit (s := S8x1024x1024) ow S1x1024x1024.size iw).toLoadRect (lw v)) fun v' =>
            .op (.load oM (Rect.unit (s := S2048x1024) oo S32x1024.size (io v v')).toLoadRect (lo v v')) fun v'' =>
            .op (.store oM (Rect.unit (s := S2048x1024) oo S32x1024.size (io v v')) (pay v v') Finset.univ (hx v v' v'') (hm v v' v'')) (k v v' v'')) Q) := by
  subst hn hn' hox how hpay
  have io' : ∀ a, oo a + S32x1024.size a ≤ S2048x1024.size a := by rw [hoo, ← k0_off1_eq c e]; exact k0_off1_inb c e
  unfold inputs partly slabPts
  iintro ⟨⟨Hx, Hw⟩, ⟨%f, %hf, Ho⟩⟩
  iintro Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := oM) (row_subset c e hoo io')) $$ Ho; iintro Ho
  iapply (wp_store 𝒱₀ (c : Thread nD τ) none Set.univ (m := oM) (r := Rect.unit (s := S2048x1024) oo S32x1024.size io') (Mk := Finset.univ)
    (by rw [View.setOn_univ]; exact row_subset c e hoo io')) $$ Ho; iintro Ho
  iapply Hk $$ %_ %_ %_
  isplitl [Hx Hw]
  · isplitl [Hx] <;> iassumption
  iexists _
  isplitr
  · ipureintro; exact DoneTo.step X W hf hoo io'
  · iexact Ho

end Cert.Proof

end
-- ==== Proof.Hop.lean ====
/-
  One hop around the ring: device `c` copies its slab `c - h` to the same rows of `nxt c`, waits for the read-out, and waits
  for the landing of the copy that `prv c` makes at the same hop.
-/
module

public import proofs.«01_k».proof.Proof.Protocol

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : OBuf F)

/-- The rows of slab `d`, as the program slices them out of the staging buffer. -/
abbrev slabM (d : Dev nD) : Memref sig .tc .vmem S256x1024 .bf16 := oM.slice (slabR d) (fun _ => rfl)

omit [FloatOps F] in
theorem slabM_set (d : Dev nD) : (slabM d).view.set = slabSet d := View.set_slice_whole _ _

omit [FloatOps F] in
/-- A slab read at `Y` and written over the same rows leaves those rows at `Y`. -/
theorem landed_eq (d : Dev nD) (fd : OBuf F) : ∀ i ∈ slabSet d,
    (slabM d).view.write (Elt F) fd ((slabM d).view.read (Elt F) Y) Finset.univ i = Y i := by
  intro i hi
  rw [← slabM_set] at hi
  obtain ⟨x, -, rfl⟩ := Finset.mem_map.mp (show i ∈ (Finset.univ).map (slabM d).view.emb from hi)
  rw [View.write_emb_of_mem _ _ (Finset.mem_univ _), View.read_apply, cast_cast, cast_eq]

/-- What device `c` needs for hop `h` besides the slab it sends: its positions on its two cells of the hop, the tokens of the
    two duties the copy pays, the credit of its own landing, and the rows of `nxt c` that it writes. -/
def hopPre (c : Dev nD) (h : Fin 7) : sProp 𝕄 :=
  iprop(atPos ER (dmaCell c (sIx h)) 0 ∅ 0 ∗ atPos ER (dmaCell c (rIx h)) 0 ∅ 0
    ∗ dutyTok ER (dmaCell c (sIx h)) 0 false ∗ dutyTok ER (dmaCell (nxt c) (rIx h)) 0 false
    ∗ cred (tallyAt (dmaCell c (rIx h)) () N)
    ∗ (∃ f, slabPts (nxt c) (org c h.val) f))

/-- What the hop's cells are read at: their invariants and that each has reached its first round. -/
def hopInv (K : Names) (c : Dev nD) (h : Fin 7) : sProp 𝕄 :=
  iprop(cellInv ER (ringRd Y) (K (dmaCell c (sIx h))) (dmaCell c (sIx h))
    ∗ cellInv ER (ringRd Y) (K (dmaCell c (rIx h))) (dmaCell c (rIx h))
    ∗ cellInv ER (ringRd Y) (K (dmaCell (nxt c) (rIx h))) (dmaCell (nxt c) (rIx h))
    ∗ reached ER (dmaCell c (sIx h)) 0 ∗ reached ER (dmaCell (nxt c) (rIx h)) 0)

omit [FloatOps F] in
instance hopInv_persistent (K : Names) (c : Dev nD) (h : Fin 7) : BI.Persistent (hopInv Y K c h) := by unfold hopInv; infer_instance

/-- What the hop leaves of its two cells: their counters at zero. -/
def hopPost (c : Dev nD) (h : Fin 7) : sProp 𝕄 :=
  iprop(semVal (dmaCell c (sIx h)) 0 ∗ semVal (dmaCell c (rIx h)) 0)

/-- ONE HOP: from slab `c - h` at `Y` to slabs `c - h` and `c - h - 1` at `Y`, the hop's credit to `nxt c` paid. -/
theorem wp_hop (K : Names) (c : Dev nD) (h : Fin 7) (a b : ℕ) (ha : a = h.val) (hb : b = h.val + 1) {n : Dev nD} (hn : n = nxt c) {off : Fin 2 → ℕ}
    (hoff : off = ![256 * (org c h.val).val, 0]) {inb : ∀ a, off a + S256x1024.size a ≤ S2048x1024.size a}
    {sS rS : DmaSem sig} (hs : sS = dmaS (sIx h)) (hr : rS = dmaS (rIx h))
    {hsc hsrc hdst hsem w₁ w₂ w₃ w₄}
    {α : Type} {Q : α → sProp 𝕄} {k : PUnit → Prog (TpuEff nD τ sig (Elt F) Λ₀ .tc) α} (Wt : Waits sig Unit) :
    iprop(hopInv Y K c h ∗ levAts L lv ∗ hopPre c h ∗ slabPts c (org c a) Y ∗ owes (c : Thread nD τ) (owedFrom c a) Wt)
      ⊢ iprop(((hopPost c h ∗ slabPts c (org c a) Y ∗ slabPts c (org c b) Y
              ∗ ∃ Wt', owes (c : Thread nD τ) (owedFrom c b) Wt')
            -∗ wp frame (wpE (defs₀ (F := F)) 𝒱₀ c none) Set.univ (k ⟨⟩) Q)
        -∗ wp frame (wpE (defs₀ (F := F)) 𝒱₀ c none) Set.univ
          (.op (.enqueueDma (oM.slice (Rect.unit (s := S2048x1024) off S256x1024.size inb) (fun _ => rfl) : Memref sig .tc .vmem S256x1024 .bf16)
              (.remote (Dev.tc n : Thread nD τ)
                (oM.slice (Rect.unit (s := S2048x1024) off S256x1024.size inb) (fun _ => rfl) : Memref sig .tc .vmem S256x1024 .bf16) (.dma sS) hsc)
              (.dma rS) hsrc hdst hsem) fun _ =>
            .op (.waitDma2 sS (oM.slice (Rect.unit (s := S2048x1024) off S256x1024.size inb) (fun _ => rfl) : Memref sig .tc .vmem S256x1024 .bf16)
              (oM.slice (Rect.unit (s := S2048x1024) off S256x1024.size inb) (fun _ => rfl) : Memref sig .tc .vmem S256x1024 .bf16) w₁ w₂) fun _ =>
            .op (.waitDma2 rS (oM.slice (Rect.unit (s := S2048x1024) off S256x1024.size inb) (fun _ => rfl) : Memref sig .tc .vmem S256x1024 .bf16)
              (oM.slice (Rect.unit (s := S2048x1024) off S256x1024.size inb) (fun _ => rfl) : Memref sig .tc .vmem S256x1024 .bf16) w₃ w₄) k) Q) := by
  subst ha hb hn hoff hs hr
  unfold hopInv hopPre hopPost
  iintro ⟨⟨#HIs, #HIr, #HIn, #HrS, #HrN⟩, #Hlev, ⟨HaS, HaR, HtS, HtN, HcR, ⟨%fd, HdN⟩⟩, Hsl, HO⟩
  iintro Hk
  -- the copy: it pays the read-out's duty with the slab itself and the landing's with `nxt c`'s rows rewritten
  iapply (Rounds.wp_send_pointsTo 𝒱₀ ER (ringRd Y) (c : Thread nD τ) none (c' := (nxt c : Thread nD τ)) (src := slabM (org c h.val)) (dst := slabM (org c h.val))
      (sS := .dma (dmaS (sIx h))) (sem := .dma (dmaS (rIx h))) (q := fullShare) (fs := Y)
      (κ₁ := K (dmaCell c (sIx h))) (κ₂ := K (dmaCell (nxt c) (rIx h))) (r₁ := 0) (r₂ := 0) (d₁ := false) (d₂ := false) (fd := fd)
      (by rw [duties_dma]; exact Finset.mem_singleton_self _) (by rw [duties_dma]; exact Finset.mem_singleton_self _)
      () () N rfl (amount_dma Y c (sIx h) false) (amount_dma Y (nxt c) (rIx h) false) (owedFrom c (h.val + 1)) (owedFrom_step c h) (W := Wt)
      (by rw [payload_send]; unfold slabPts; rw [slabM_set])
      (by
        rw [payload_recv, org_nxt]; unfold slabPts; rw [slabM_set]
        exact Entails.of_eq (pointsTo_congr (landed_eq Y (org c h.val) fd)))) $$ [Hsl HdN HO HtS HtN]
  · isplitr; · iexact HIs
    isplitr; · iexact HIn
    isplitl [Hsl]; · unfold slabPts; rw [slabM_set]; iexact Hsl
    isplitl [HdN]; · unfold slabPts; rw [slabM_set]; iexact HdN
    isplitl [HO]; · iexact HO
    isplitl [HtS]; · iexact HtS
    isplitr; · iexact HrS
    isplitl [HtN]; · iexact HtN
    iexact HrN
  iintro ⟨HcS, HO⟩
  -- the wait for the read-out: the slab comes back
  iapply (Rounds.wp_wait_rest_token 𝒱₀ ER (ringRd Y) (c : Thread nD τ) none (κ := K (dmaCell c (sIx h)))
      (wpE_waitDma2_eq (src := slabM (org c h.val)) (dst := slabM (org c h.val)) 𝒱₀ (c : Thread nD τ) none Set.univ) (Set.mem_univ _) ()
      (O := owedFrom c (h.val + 1)) (W := Wt) (R := 0) (m := 0) (T := ∅)
      ((Nat.zero_add N).trans (expect_dma Y c (sIx h)).symm)) $$ [HcS HO HaS]
  · isplitr; · iexact HIs
    isplitl [HcS]; · iexact HcS
    isplitl [HO]; · iexact HO
    isplitr; · iapply (mayWait_of_lt c _ (h.val + 1) (by rw [show lvS (.dma (dmaS (sIx h))) = 0 from lv_send c h ()]; omega)); iexact Hlev
    iexact HaS
  iintro ⟨HO, HaS, -, Hpay⟩
  ihave Hsl := (Entails.of_eq (rest_send Y c h)) $$ Hpay
  -- the wait for the landing: the next slab, at `Y`
  iapply (Rounds.wp_wait_rest_token 𝒱₀ ER (ringRd Y) (c : Thread nD τ) none (κ := K (dmaCell c (rIx h)))
      (wpE_waitDma2_eq (src := slabM (org c h.val)) (dst := slabM (org c h.val)) 𝒱₀ (c : Thread nD τ) none Set.univ) (Set.mem_univ _) ()
      (O := owedFrom c (h.val + 1)) (W := insert (SemLoc.dma (dmaS (sIx h)), ()) Wt) (R := 0) (m := 0) (T := ∅)
      ((Nat.zero_add N).trans (expect_dma Y c (rIx h)).symm)) $$ [HcR HO HaR]
  · isplitr; · iexact HIr
    isplitl [HcR]; · iexact HcR
    isplitl [HO]; · iexact HO
    isplitr; · iapply (mayWait_of_lt c _ (h.val + 1) (by rw [show lvS (.dma (dmaS (rIx h))) = h.val + 2 from lv_recv c h ()]; omega)); iexact Hlev
    iexact HaR
  iintro ⟨HO, HaR, -, Hpay⟩
  ihave Hnx := (Entails.of_eq (rest_recv Y c h)) $$ Hpay
  imod (close Y (K (dmaCell c (sIx h))) (dmaCell c (sIx h))) $$ [HaS] with HzS
  · isplitr; · iexact HIs
    iexact HaS
  imod (close Y (K (dmaCell c (rIx h))) (dmaCell c (rIx h))) $$ [HaR] with HzR
  · isplitr; · iexact HIr
    iexact HaR
  iapply Hk
  isplitl [HzS HzR]
  · isplitl [HzS] <;> iassumption
  isplitl [Hsl]; · iexact Hsl
  isplitl [Hnx]; · iexact Hnx
  iexists _; iexact HO

end Cert.Proof

end
-- ==== Proof.Families.lean ====
/-
  Separating conjunctions over the ring's devices, its seven hops and the fourteen DMA cells, each written in the other ways
  the proof needs it.
-/
module

public import proofs.«01_k».proof.Proof.Protocol

@[expose] public section

noncomputable section

namespace Cert.Proof

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode

variable {M : Type} [URA M]

/-- One member of a family. -/
theorem bigSep_at {I : Type} [Fintype I] [DecidableEq I] (Φ : I → sProp M) (i : I) : bigSep Finset.univ Φ ⊢ Φ i := bigSep_elim (Finset.mem_univ i)

/-- The seven hops, one by one. -/
theorem bigSep_fin7 (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

/-- The fourteen DMA cells: the read-outs', then the landings'. -/
theorem bigSep_fin14 (Φ : Fin 14 → sProp M) :
    bigSep Finset.univ Φ = iprop((bigSep Finset.univ fun h : Fin 7 => Φ (sIx h)) ∗ bigSep Finset.univ fun h : Fin 7 => Φ (rIx h)) := by
  rw [bigSep_univ_equiv (finSumFinEquiv (m := 7) (n := 7)) Φ, bigSep_univ_sum]
  have h1 : ∀ h : Fin 7, finSumFinEquiv (m := 7) (n := 7) (Sum.inl h) = sIx h := fun h => Fin.ext rfl
  have h2 : ∀ h : Fin 7, finSumFinEquiv (m := 7) (n := 7) (Sum.inr h) = rIx h := fun h => Fin.ext (by show 7 + h.val = h.val + 7; omega)
  simp only [h1, h2]
  rfl

/-- The devices, counted backwards from `c`. -/
theorem org_bijective (c : Dev nD) : Function.Bijective fun n : Fin 8 => org c n.val := by revert c; decide

/-- All devices: `c`, and the seven before it. -/
theorem bigSep_ring (c : Dev nD) (Φ : Dev nD → sProp M) :
    bigSep Finset.univ Φ = iprop(Φ c ∗ bigSep Finset.univ fun h : Fin 7 => Φ (org c (h.val + 1))) := by
  rw [bigSep_univ_equiv (Equiv.ofBijective _ (org_bijective c)) Φ, Fin.univ_succ, Finset.cons_eq_insert,
    bigSep_insert (by simp [Fin.succ_ne_zero]), bigSep_map]
  have h0 : Equiv.ofBijective _ (org_bijective c) 0 = c := org_zero c
  rw [h0]
  rfl

end Cert.Proof

end
-- ==== Proof.Body.lean ====
/-
  The kernel's body on one device, run from its opened cells to its closed ones: the barrier, the eight experts' steps, the
  seven hops. The device is symbolic; each phase is one rule, used once per occurrence.
-/
module

public import proofs.«01_k».proof.Proof.Compute
public import proofs.«01_k».proof.Proof.Hop
public import proofs.«01_k».proof.Proof.Families

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XBuf F) (W : Dev nD → WBuf F)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem off1_eq (c : Dev nD) (e : Fin 8) : k0_off1 c (BitVec.ofNat 32 (32 * e.val)) = ![256 * c.val + 32 * e.val, 0] := k0_off1_eq c e
theorem off2_eq (c : Dev nD) (h : Fin 7) : k0_off2 c (BitVec.ofNat 32 h.val) = ![256 * (org c h.val).val, 0] := k0_off2_eq c h

/-! The eight products are one product, cut in the text at different places. -/

theorem pay_1 : (fun v v' => k0_pay3 (k0_pay2 v) v' : Vec F S32x1024 .bf16 → Vec F S1x1024x1024 .bf16 → FVec F S32x1024 .bf16) = k0_pay1 := rfl
theorem pay_2 : (k0_pay4 : Vec F S32x1024 .bf16 → Vec F S1x1024x1024 .bf16 → FVec F S32x1024 .bf16) = k0_pay1 := rfl
theorem pay_3 : (k0_pay5 : Vec F S32x1024 .bf16 → Vec F S1x1024x1024 .bf16 → FVec F S32x1024 .bf16) = k0_pay1 := rfl
theorem pay_4 : (fun v v' => k0_pay7 (k0_pay6 v) v' : Vec F S32x1024 .bf16 → Vec F S1x1024x1024 .bf16 → FVec F S32x1024 .bf16) = k0_pay1 := rfl
theorem pay_5 : (k0_pay8 : Vec F S32x1024 .bf16 → Vec F S1x1024x1024 .bf16 → FVec F S32x1024 .bf16) = k0_pay1 := rfl
theorem pay_6 : (k0_pay9 : Vec F S32x1024 .bf16 → Vec F S1x1024x1024 .bf16 → FVec F S32x1024 .bf16) = k0_pay1 := rfl
theorem pay_7 : (fun v v' => k0_pay11 (k0_pay10 v) v' : Vec F S32x1024 .bf16 → Vec F S1x1024x1024 .bf16 → FVec F S32x1024 .bf16) = k0_pay1 := rfl

/-! ## Before the hops -/

omit [FloatOps F] in
/-- A staging buffer is its own slab and the seven that its left neighbour writes. -/
theorem staging_split (c : Dev nD) (f : OBuf F) :
    (oLoc c ↦{fullShare} f : sProp 𝕄)
      ⊢ iprop(slabPts c c f ∗ bigSep Finset.univ fun h : Fin 7 => iprop(∃ f, slabPts (nxt (prv c)) (org (prv c) h.val) f)) := by
  rw [slabs_eq, bigSep_ring c]
  refine sep_mono_right (bigSep_mono fun h _ => ?_)
  rw [nxt_prv, org_succ]
  exact exists_intro (Φ := fun f => slabPts c (org c (h.val + 1)) f) f

omit [FloatOps F] in
/-- What the launch dealt for the hops, hop by hop, once the barrier has brought the rows of the right neighbour. -/
theorem hops_intro (c : Dev nD) :
    iprop((bigSep Finset.univ fun k : Fin 14 => atPos ER (dmaCell c k) 0 ∅ 0)
        ∗ (bigSep Finset.univ fun h : Fin 7 => dutyTok ER (dmaCell c (sIx h)) 0 false)
        ∗ (bigSep Finset.univ fun h : Fin 7 => dutyTok ER (dmaCell (nxt c) (rIx h)) 0 false)
        ∗ (bigSep Finset.univ fun h : Fin 7 => cred (tallyAt (dmaCell c (rIx h)) () N))
        ∗ bigSep Finset.univ fun h : Fin 7 => iprop(∃ f, slabPts (nxt c) (org c h.val) f))
      ⊢ (bigSep Finset.univ fun h : Fin 7 => hopPre c h : sProp 𝕄) := by
  unfold hopPre
  simp only [bigSep_sep', bigSep_fin14]
  iintro ⟨⟨H1, H2⟩, H3, H4, H5, H6⟩
  isplitl [H1]; · iexact H1
  isplitl [H2]; · iexact H2
  isplitl [H3]; · iexact H3
  isplitl [H4]; · iexact H4
  isplitl [H5] <;> iassumption

omit [FloatOps F] in
/-- What a hop's cells are read at, out of all the invariants. -/
theorem hopInv_intro (Y : OBuf F) (K : Names) (c : Dev nD) (h : Fin 7) :
    iprop(invs Y K c ∗ (bigSep Finset.univ fun k : Fin 14 => reached ER (dmaCell c k) 0)
        ∗ bigSep Finset.univ fun h : Fin 7 => reached ER (dmaCell (nxt c) (rIx h)) 0)
      ⊢ (hopInv Y K c h : sProp 𝕄) := by
  unfold invs hopInv
  iintro ⟨⟨-, -, -, #HI, #HN, -, -⟩, #HR, #HRN⟩
  isplitr; · iapply (bigSep_at (fun k : Fin 14 => cellInv ER (ringRd Y) (K (dmaCell c k)) (dmaCell c k)) (sIx h)) $$ HI
  isplitr; · iapply (bigSep_at (fun k : Fin 14 => cellInv ER (ringRd Y) (K (dmaCell c k)) (dmaCell c k)) (rIx h)) $$ HI
  isplitr; · iapply (bigSep_at (fun k : Fin 14 => cellInv ER (ringRd Y) (K (dmaCell (nxt c) k)) (dmaCell (nxt c) k)) (rIx h)) $$ HN
  isplitr; · iapply (bigSep_at (fun k : Fin 14 => reached ER (dmaCell c k) 0) (sIx h)) $$ HR
  iapply (bigSep_at (fun h : Fin 7 => reached ER (dmaCell (nxt c) (rIx h)) 0) (h)) $$ HRN

omit [FloatOps F] in
/-- The gathered slabs make the whole staging buffer. -/
theorem staging_join (c : Dev nD) (Y : OBuf F) :
    iprop(slabPts c (org c 0) Y ∗ bigSep Finset.univ fun h : Fin 7 => slabPts c (org c (h.val + 1)) Y) ⊢ (oLoc c ↦{fullShare} Y : sProp 𝕄) := by
  rw [slabs_eq, bigSep_ring c, org_zero]

omit [FloatOps F] in
/-- Among the fourteen, the landings' cells. -/
theorem landings_reached (c : Dev nD) :
    (bigSep Finset.univ fun k : Fin 14 => reached ER (dmaCell c k) 0)
      ⊢ (bigSep Finset.univ fun h : Fin 7 => reached ER (dmaCell c (rIx h)) 0 : sProp 𝕄) := by
  rw [bigSep_fin14]
  iintro ⟨-, H⟩; iexact H

/-! ## The body -/

/-- What the body starts from: its cells open, its inputs, its result buffer at anything, owing what the launch left it. -/
def runPre (K : Names) (c : Dev nD) (Wt : Waits sig Unit) : sProp 𝕄 :=
  iprop(opened (gathered X W) K c ∗ levAts L lv ∗ inputs X W c ∗ (∃ f, oLoc c ↦{fullShare} f) ∗ owes (c : Thread nD τ) (O₀ c) Wt)

/-- What it ends with: its cells closed, its inputs as they were, its result buffer gathered, nothing owed. -/
def runPost (c : Dev nD) : sProp 𝕄 :=
  iprop(semVal (barCell c) 0 ∗ (bigSep Finset.univ fun h : Fin 7 => hopPost c h)
    ∗ inputs X W c ∗ (oLoc c ↦{fullShare} gathered X W) ∗ ∃ Wt, owes (c : Thread nD τ) (0 : CellTallies nD τ sig Unit) Wt)

set_option maxHeartbeats 4000000 in
theorem run_body (K : Names) (c : Dev nD) (Wt : Waits sig Unit) (Kt : PUnit → sProp 𝕄) :
    iprop(runPre X W K c Wt ∗ (runPost X W c -∗ Kt ⟨⟩))
      ⊢ wp frame (wpE (defs₀ (F := F)) 𝒱₀ c none) Set.univ
          (cc0_body xM (Memref.isWhole_whole _) wM (Memref.isWhole_whole _) oM (Memref.isWhole_whole _) cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  simp only [dev1_eq c, dev2_eq c]
  unfold runPre opened tokens credits
  iintro ⟨⟨⟨#HI, HaB, Hat, #HR, ⟨HtR, HtL, HtS, HtN⟩, ⟨HcB, HcR⟩⟩, #Hlev, Hin, ⟨%f, Ho⟩, HO⟩, Hk⟩
  ihave Hs := (staging_split c f) $$ Ho
  icases Hs with ⟨Hme, Hgive⟩
  ihave HI' := (show invs (gathered X W) K c ⊢ _ from by unfold invs; exact .rfl) $$ HI
  icases HI' with ⟨#HIb, #HIbN, #HIbP, -, -, #HrbN, #HrbP⟩
  -- the signal to the left hands over the rows of this device's buffer that the left neighbour will write
  iapply (Rounds.wp_signal 𝒱₀ ER (ringRd (gathered X W)) (c : Thread nD τ) none (dst := (prv c : Thread nD τ)) (κ := K (barCell (prv c)))
      (d := false) (by rw [duties_bar]; exact Finset.mem_univ _) ((amount_bar (gathered X W) (prv c) false).trans (by decide)) ()
      (owedFrom c 0 + tallyAt (barCell (nxt c)) () 1) rfl)
    $$ [HO HtL Hgive]
  · isplitr; · iexact HIbP
    isplitl [HO]; · iexact HO
    isplitl [HtL]; · iexact HtL
    isplitl [Hgive]
    · rw [payload_bar_right]; unfold barPay
      isplitl [Hgive]; · iexact Hgive
      rw [nxt_prv]
      iapply (landings_reached c); iexact HR
    · iexact HrbP
  iintro HO
  -- the signal to the right hands over nothing
  iapply (Rounds.wp_signal 𝒱₀ ER (ringRd (gathered X W)) (c : Thread nD τ) none (dst := (nxt c : Thread nD τ)) (κ := K (barCell (nxt c)))
      (d := true) (by rw [duties_bar]; exact Finset.mem_univ _) ((amount_bar (gathered X W) (nxt c) true).trans (by decide)) ()
      (owedFrom c 0) rfl)
    $$ [HO HtR]
  · isplitr; · iexact HIbN
    isplitl [HO]; · iexact HO
    isplitl [HtR]; · iexact HtR
    isplitr
    · rw [payload_bar_left]; iempintro
    · iexact HrbN
  iintro HO
  -- the wait for both neighbours brings the right neighbour's rows
  iapply (Rounds.wp_wait_rest_token 𝒱₀ ER (ringRd (gathered X W)) (c : Thread nD τ) none (κ := K (barCell c))
      (wpE_semWait_eq 𝒱₀ (c : Thread nD τ) none Set.univ) (Set.mem_univ _) () (O := owedFrom c 0) (W := Wt) (R := 0) (m := 0) (T := ∅)
      (by rw [expect_bar]; decide)) $$ [HcB HO HaB]
  · isplitr; · iexact HIb
    isplitl [HcB]; · iexact HcB
    isplitl [HO]; · iexact HO
    isplitr; · iapply (mayWait_of_lt c _ 0 (by rw [show lvS (.reg barS) = 1 from lv_bar c ()]; omega)); iexact Hlev
    iexact HaB
  iintro ⟨HO, HaB, -, Hpay⟩
  ihave Hp := (rest_bar (gathered X W) c) $$ Hpay
  unfold barPay
  icases Hp with ⟨Hrows, #HRN⟩
  imod (close (gathered X W) (K (barCell c)) (barCell c)) $$ [HaB] with HzB
  · isplitr; · iexact HIb
    iexact HaB
  ihave Hpre := (hops_intro c) $$ [Hat HtS HtN HcR Hrows]
  · isplitl [Hat]; · iexact Hat
    isplitl [HtS]; · iexact HtS
    isplitl [HtN]; · iexact HtN
    isplitl [HcR] <;> iassumption
  ihave Hpre' := (Entails.of_eq (bigSep_fin7 fun h => hopPre c h)) $$ Hpre
  icases Hpre' with ⟨P0, P1, P2, P3, P4, P5, P6⟩
  -- the eight experts
  ihave Hme := (partly_zero X W c) $$ [Hme]
  · iexists f; iexact Hme
  iapply (wp_expert X W c 0 0 1 rfl rfl (show ![0, 0] = _ from rfl) (show ![0, 0, 0] = _ from rfl) (show k0_off1 c 0#32 = _ from off1_eq c 0) rfl) $$ [Hin Hme]
  · isplitl [Hin]; · iexact Hin
    iexact Hme
  iintro %_ %_ %_ ⟨Hin, Hme⟩
  iapply (wp_expert X W c 1 1 2 rfl rfl (show ![32, 0] = _ from rfl) (show ![1, 0, 0] = _ from rfl) (show k0_off1 c 32#32 = _ from off1_eq c 1) pay_1) $$ [Hin Hme]
  · isplitl [Hin]; · iexact Hin
    iexact Hme
  iintro %_ %_ %_ ⟨Hin, Hme⟩
  iapply (wp_expert X W c 2 2 3 rfl rfl (show ![64, 0] = _ from rfl) (show ![2, 0, 0] = _ from rfl) (show k0_off1 c 64#32 = _ from off1_eq c 2) pay_2) $$ [Hin Hme]
  · isplitl [Hin]; · iexact Hin
    iexact Hme
  iintro %_ %_ %_ ⟨Hin, Hme⟩
  iapply (wp_expert X W c 3 3 4 rfl rfl (show ![96, 0] = _ from rfl) (show ![3, 0, 0] = _ from rfl) (show k0_off1 c 96#32 = _ from off1_eq c 3) pay_3) $$ [Hin Hme]
  · isplitl [Hin]; · iexact Hin
    iexact Hme
  iintro %_ %_ %_ ⟨Hin, Hme⟩
  iapply (wp_expert X W c 4 4 5 rfl rfl (show ![128, 0] = _ from rfl) (show ![4, 0, 0] = _ from rfl) (show k0_off1 c 128#32 = _ from off1_eq c 4) pay_4) $$ [Hin Hme]
  · isplitl [Hin]; · iexact Hin
    iexact Hme
  iintro %_ %_ %_ ⟨Hin, Hme⟩
  iapply (wp_expert X W c 5 5 6 rfl rfl (show ![160, 0] = _ from rfl) (show ![5, 0, 0] = _ from rfl) (show k0_off1 c 160#32 = _ from off1_eq c 5) pay_5) $$ [Hin Hme]
  · isplitl [Hin]; · iexact Hin
    iexact Hme
  iintro %_ %_ %_ ⟨Hin, Hme⟩
  iapply (wp_expert X W c 6 6 7 rfl rfl (show ![192, 0] = _ from rfl) (show ![6, 0, 0] = _ from rfl) (show k0_off1 c 192#32 = _ from off1_eq c 6) pay_6) $$ [Hin Hme]
  · isplitl [Hin]; · iexact Hin
    iexact Hme
  iintro %_ %_ %_ ⟨Hin, Hme⟩
  iapply (wp_expert X W c 7 7 8 rfl rfl (show ![224, 0] = _ from rfl) (show ![7, 0, 0] = _ from rfl) (show k0_off1 c 224#32 = _ from off1_eq c 7) pay_7) $$ [Hin Hme]
  · isplitl [Hin]; · iexact Hin
    iexact Hme
  iintro %_ %_ %_ ⟨Hin, Hme⟩
  ihave Hme := (partly_all X W c) $$ Hme
  -- the seven hops
  ihave S0 := (Entails.of_eq (congrArg (fun d => slabPts c d (gathered X W)) (org_zero c).symm)) $$ Hme
  iapply (wp_hop (gathered X W) K c 0 0 1 rfl rfl (Fin.ext (k0_dev3_eq c)) (show k0_off2 c 0#32 = _ from off2_eq c 0) (sendS_eq 0) (recvS_eq 0) _) $$ [P0 S0 HO]
  · isplitr
    · iapply (hopInv_intro (gathered X W) K c 0)
      isplitr; · iexact HI
      isplitr; · iexact HR
      iexact HRN
    isplitr; · iexact Hlev
    isplitl [P0]; · iexact P0
    isplitl [S0]; · iexact S0
    iexact HO
  iintro ⟨Z0, T0, S1, ⟨%W0, HO⟩⟩
  iapply (wp_hop (gathered X W) K c 1 1 2 rfl rfl (Fin.ext (k0_dev4_eq c)) (show k0_off2 c 1#32 = _ from off2_eq c 1) (sendS_eq 1) (recvS_eq 1) _) $$ [P1 S1 HO]
  · isplitr
    · iapply (hopInv_intro (gathered X W) K c 1)
      isplitr; · iexact HI
      isplitr; · iexact HR
      iexact HRN
    isplitr; · iexact Hlev
    isplitl [P1]; · iexact P1
    isplitl [S1]; · iexact S1
    iexact HO
  iintro ⟨Z1, T1, S2, ⟨%W1, HO⟩⟩
  iapply (wp_hop (gathered X W) K c 2 2 3 rfl rfl (Fin.ext (k0_dev5_eq c)) (show k0_off2 c 2#32 = _ from off2_eq c 2) (sendS_eq 2) (recvS_eq 2) _) $$ [P2 S2 HO]
  · isplitr
    · iapply (hopInv_intro (gathered X W) K c 2)
      isplitr; · iexact HI
      isplitr; · iexact HR
      iexact HRN
    isplitr; · iexact Hlev
    isplitl [P2]; · iexact P2
    isplitl [S2]; · iexact S2
    iexact HO
  iintro ⟨Z2, T2, S3, ⟨%W2, HO⟩⟩
  iapply (wp_hop (gathered X W) K c 3 3 4 rfl rfl (Fin.ext (k0_dev6_eq c)) (show k0_off2 c 3#32 = _ from off2_eq c 3) (sendS_eq 3) (recvS_eq 3) _) $$ [P3 S3 HO]
  · isplitr
    · iapply (hopInv_intro (gathered X W) K c 3)
      isplitr; · iexact HI
      isplitr; · iexact HR
      iexact HRN
    isplitr; · iexact Hlev
    isplitl [P3]; · iexact P3
    isplitl [S3]; · iexact S3
    iexact HO
  iintro ⟨Z3, T3, S4, ⟨%W3, HO⟩⟩
  iapply (wp_hop (gathered X W) K c 4 4 5 rfl rfl (Fin.ext (k0_dev7_eq c)) (show k0_off2 c 4#32 = _ from off2_eq c 4) (sendS_eq 4) (recvS_eq 4) _) $$ [P4 S4 HO]
  · isplitr
    · iapply (hopInv_intro (gathered X W) K c 4)
      isplitr; · iexact HI
      isplitr; · iexact HR
      iexact HRN
    isplitr; · iexact Hlev
    isplitl [P4]; · iexact P4
    isplitl [S4]; · iexact S4
    iexact HO
  iintro ⟨Z4, T4, S5, ⟨%W4, HO⟩⟩
  iapply (wp_hop (gathered X W) K c 5 5 6 rfl rfl (Fin.ext (k0_dev8_eq c)) (show k0_off2 c 5#32 = _ from off2_eq c 5) (sendS_eq 5) (recvS_eq 5) _) $$ [P5 S5 HO]
  · isplitr
    · iapply (hopInv_intro (gathered X W) K c 5)
      isplitr; · iexact HI
      isplitr; · iexact HR
      iexact HRN
    isplitr; · iexact Hlev
    isplitl [P5]; · iexact P5
    isplitl [S5]; · iexact S5
    iexact HO
  iintro ⟨Z5, T5, S6, ⟨%W5, HO⟩⟩
  iapply (wp_hop (gathered X W) K c 6 6 7 rfl rfl (Fin.ext (k0_dev9_eq c)) (show k0_off2 c 6#32 = _ from off2_eq c 6) (sendS_eq 6) (recvS_eq 6) _) $$ [P6 S6 HO]
  · isplitr
    · iapply (hopInv_intro (gathered X W) K c 6)
      isplitr; · iexact HI
      isplitr; · iexact HR
      iexact HRN
    isplitr; · iexact Hlev
    isplitl [P6]; · iexact P6
    isplitl [S6]; · iexact S6
    iexact HO
  iintro ⟨Z6, T6, S7, ⟨%W6, HO⟩⟩
  rw [wp_ret]; imodintro
  iapply Hk
  unfold runPost
  isplitl [HzB]; · iexact HzB
  isplitl [Z0 Z1 Z2 Z3 Z4 Z5 Z6]
  · iapply (Entails.of_eq (bigSep_fin7 fun h => hopPost c h).symm)
    isplitl [Z0]; · iexact Z0
    isplitl [Z1]; · iexact Z1
    isplitl [Z2]; · iexact Z2
    isplitl [Z3]; · iexact Z3
    isplitl [Z4]; · iexact Z4
    isplitl [Z5] <;> iassumption
  isplitl [Hin]; · iexact Hin
  isplitl [T0 T1 T2 T3 T4 T5 T6 S7]
  · iapply (staging_join c (gathered X W))
    isplitl [T0]; · iexact T0
    iapply (Entails.of_eq (bigSep_fin7 fun h => slabPts c (org c (h.val + 1)) (gathered X W)).symm)
    isplitl [T1]; · iexact T1
    isplitl [T2]; · iexact T2
    isplitl [T3]; · iexact T3
    isplitl [T4]; · iexact T4
    isplitl [T5]; · iexact T5
    isplitl [T6]; · iexact T6
    iexact S7
  iexists W6
  iapply (Entails.of_eq (congrArg (fun O => owes (c : Thread nD τ) O W6) (owedFrom_end c))) $$ HO

end Cert.Proof

end
-- ==== Proof.Region.lean ====
/-
  The kernel as one region of @main: what it leaves in its result array, the body obligation at the grid's one point, and the
  record of the region from the valuation before it to the one after it.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Rounds.Family
public import Idealize.ShloMosaic.Lib.Pipeline.ValueKit.Geometry

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the region reads and what it leaves -/

/-- The slots of device `c`'s tokens, as the region finds them, -/
def xAt (c : Dev nD) : XBuf F := (win0_0.blk t0_0).view.read (Elt F) (V11 m c main_v37)
/-- and its experts' matrices. -/
def wAt (c : Dev nD) : WBuf F := (win0_1.blk t0_0).view.read (Elt F) (V11 m c main_arg3)
/-- What every device's result array holds after the region. -/
def yAll : OBuf F := gathered (xAt m) (wAt m)

/-- What the region leaves: its result array gathered, everything else as it was. -/
def outs : Outs (F := F) := fun _ r c => if h : r = main_v38 then h ▸ (yAll m : (main_v38 : Ref sig .tc).ty.Contents (Elt F)) else V11 m c r

theorem outs_v38 (J : ℕ) (c : Dev nD) : outs m J main_v38 c = (yAll m : (main_v38 : Ref sig .tc).ty.Contents (Elt F)) := by
  unfold outs; rw [dif_pos rfl]

/-! ## The proof data -/

/-- The invariant when the body is called. -/
def phi0 (c : Dev nD) : sProp 𝕄 := iprop((∃ K, opened (yAll m) K c) ∗ levAts L lv ∗ ∃ r, prngReg c r)
/-- The invariant when it returns: all the counters of the protocol at zero. -/
def phi1 (c : Dev nD) : sProp 𝕄 :=
  iprop(semVal (barCell c) 0 ∗ (bigSep Finset.univ fun h : Fin 7 => hopPost c h) ∗ ∃ r, prngReg c r)

/-- Two inputs fetched, the result gathered, the launch's dues paid. -/
def pdats (_ : Fin 1) (c : Dev nD) : Dat τ (Elt F) Unit ℕ UU ℕ cfg0 c where
  A w := V11 m c (Proc.devRef .tc (Pipeline.arrRef cfg0.spec w))
  after w _ := match w with
    | ⟨0, _⟩ => xAt m c
    | ⟨1, _⟩ => wAt m c
    | ⟨2, _⟩ => yAll m
  Φ t := match t with
    | ⟨0, _⟩ => phi0 m c
    | ⟨_ + 1, _⟩ => phi1 c
  q _ := fullShare
  owed t := match t with
    | ⟨0, _⟩ => O₀ c
    | ⟨_ + 1, _⟩ => 0

omit [FloatOps F] in
/-- A whole staging memref is owned at `X` when its buffer holds `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A staging buffer that holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (pdats m 0 c).before (0 : Fin 3) t0_0 d = xAt m c := by
  unfold Dat.before; rw [if_pos (fetch0_0 t0_0)]
  funext j; unfold Dat.fetched Pipeline.Window.fill
  rw [dif_pos ((Pipeline.Window.moved_iff _ _ _).mpr fun a => (j a).isLt)]
  unfold Dat.blockOf pdats xAt
  generalize V11 m c = V
  rfl
theorem before_w (c : Dev nD) (d) : (pdats m 0 c).before (1 : Fin 3) t0_0 d = wAt m c := by
  unfold Dat.before; rw [if_pos (fetch0_1 t0_0)]
  funext j; unfold Dat.fetched Pipeline.Window.fill
  rw [dif_pos ((Pipeline.Window.moved_iff _ _ _).mpr fun a => (j a).isLt)]
  unfold Dat.blockOf pdats wAt
  generalize V11 m c = V
  rfl

/-- What the body is called with. -/
def bodyPre (c : Dev nD) : sProp 𝕄 :=
  iprop(phi0 m c ∗ (pdats m 0 c).owesAt () t0_0.castSucc
    ∗ (∃ d, stg c cc0_stg0_0 ((pdats m 0 c).before (0 : Fin 3) t0_0 d))
    ∗ (∃ d, stg c cc0_stg1_0 ((pdats m 0 c).before (1 : Fin 3) t0_0 d))
    ∗ (∃ d, stg c cc0_stg2_0 ((pdats m 0 c).before (2 : Fin 3) t0_0 d)))
/-- What it returns. -/
def bodyPost (c : Dev nD) : sProp 𝕄 :=
  iprop(phi1 c ∗ (pdats m 0 c).owesAt () t0_0.succ ∗ stg c cc0_stg0_0 (xAt m c) ∗ stg c cc0_stg1_0 (wAt m c) ∗ stg c cc0_stg2_0 (yAll m))

theorem body_sound (c : Dev nD) :
    bodyPre m c ⊢ wp frame (wpE (defs₀ (F := F)) 𝒱₀ c none) Set.univ
      (cc0_body xM (Memref.isWhole_whole _) wM (Memref.isWhole_whole _) oM (Memref.isWhole_whole _) cc0_scratch0 cc0_scratch1)
      (fun _ => bodyPost m c) := by
  unfold bodyPre phi0
  simp only [before_x, before_w]
  iintro ⟨⟨⟨%K, Hop⟩, Hlev, Hp⟩, Ho, ⟨%_, ⟨%fx, %hx, Hx⟩⟩, ⟨%_, ⟨%fw, %hw, Hw⟩⟩, ⟨%_, ⟨%fo, %_, Hout⟩⟩⟩
  subst hx hw
  unfold Dat.owesAt Pipeline.owesWithin
  icases Ho with ⟨%Wt, -, HO⟩
  iapply (run_body (xAt m) (wAt m) K c Wt fun _ => bodyPost m c)
  isplitr [Hp]
  · unfold runPre inputs
    isplitl [Hop]; · iexact Hop
    isplitl [Hlev]; · iexact Hlev
    isplitl [Hx Hw]
    · isplitl [Hx] <;> iassumption
    isplitl [Hout]; · iexists fo; iexact Hout
    iexact HO
  · unfold runPost inputs bodyPost phi1 Dat.owesAt Pipeline.owesWithin
    iintro ⟨Hb, Hh, ⟨Hx, Hw⟩, Hout, ⟨%Wt', HO⟩⟩
    isplitl [Hb Hh Hp]
    · isplitl [Hb]; · iexact Hb
      isplitl [Hh] <;> iassumption
    isplitl [HO]
    · iexists Wt'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

/-- The body obligation of the region. -/
theorem body_obligation (c : Dev nD) : BodyObligation (pdats (F := F) m 0 c) (defs₀ (F := F)) 𝒱₀ () Set.univ := fun t => by
  rw [fin_N0 t]
  rw [bigSep_W0, bigSep_W0]
  simp only [owns_whole]
  have e1 : (pdats m 0 c).Φ t0_0.castSucc = phi0 m c := rfl
  have e2 : (pdats m 0 c).Φ t0_0.succ = phi1 c := rfl
  have e3 : (pdats m 0 c).after 0 t0_0 = xAt m c := by dsimp only [pdats]
  have e4 : (pdats m 0 c).after 1 t0_0 = wAt m c := by dsimp only [pdats]
  have e5 : (pdats m 0 c).after 2 t0_0 = yAll m := by dsimp only [pdats]
  have e6 : (defs₀ (F := F)) Proc.tc 0 (t0_0, cfg0.slots t0_0) = cc0_body xM (Memref.isWhole_whole _) wM (Memref.isWhole_whole _) oM (Memref.isWhole_whole _) cc0_scratch0 cc0_scratch1 := rfl
  rw [e1, e2, e3, e4, e5, e6]
  exact body_sound m c

/-! ## The record -/

/-- The kernel's own semaphores. -/
abbrev osem : Fin 14 → SemLoc sig := fun k => .dma (dmaS k)

omit [FloatOps F] in
/-- Both DMA counters of every hop are the fourteen own semaphores' counters. -/
theorem ownSems_of_hops (c : Dev nD) :
    (bigSep Finset.univ fun h : Fin 7 => hopPost c h) ⊢ (Pipeline.ownSems0 osem c : sProp 𝕄) := by
  unfold Pipeline.ownSems0 hopPost
  rw [bigSep_fin14, bigSep_sep']

/-- The protocol's state when the region is entered. -/
abbrev Tk (c : Dev nD) : sProp 𝕄 := start (yAll m) c
/-- The same, its DMA cells open. -/
abbrev Xk (c : Dev nD) : sProp 𝕄 := iprop((∃ K, opened (yAll m) K c) ∗ levAts L lv)
/-- The protocol's state when the region is left. -/
abbrev Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk start Pipeline.ownSems0
  iintro ⟨⟨%K, #HI, HaB, Hot, Htk, Hcr⟩, Hs, Hlev⟩
  ihave HI' := (show invs (yAll m) K c ⊢ _ from by unfold invs; exact .rfl) $$ HI
  icases HI' with ⟨-, -, -, #HIc, -, -, -⟩
  imod (cells_open ER (ringRd (yAll m)) Finset.univ (fun k : Fin 14 => dmaCell c k) (fun k => K (dmaCell c k)) (Es := Set.univ)
      (fun _ _ => Set.mem_univ _)) $$ [Hot Hs] with Hat
  · isplitl [Hot]
    · rw [bigSep_sep']
      isplitr; · iexact HIc
      iexact Hot
    iexact Hs
  ihave Hat' := (Entails.of_eq (bigSep_sep' (s := Finset.univ) (Φ := fun k : Fin 14 => atPos ER (dmaCell c k) 0 ∅ 0)
      (Ψ := fun k : Fin 14 => reached ER (dmaCell c k) 0))) $$ Hat
  icases Hat' with ⟨Hat, #HR⟩
  imodintro
  isplitr [Hlev]
  · iexists K; unfold opened
    isplitr; · iexact HI
    isplitl [HaB]; · iexact HaB
    isplitl [Hat]; · iexact Hat
    isplitr; · iexact HR
    isplitl [Htk] <;> iassumption
  iexact Hlev

theorem hin (c : Dev nD) : iprop(Pipeline.scopedRest (Pipeline.pin (pcfgs (F := F)) adm 0).spec c ∗ (∃ r, prngReg c r)
      ∗ StableHlo.held (c.tc : Thread nD τ) ∅ (V11 m c) ∗ Xk m c) ⊢ (pdats m 0 c).Φ 0 := by
  rw [show (pdats m 0 c).Φ 0 = phi0 m c from rfl]
  unfold Xk phi0
  iintro ⟨-, Hp, -, HK, Hlev⟩
  isplitl [HK]; · iexact HK
  isplitl [Hlev]; · iexact Hlev
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V12 m (outs m) c) ∗ Pipeline.ownSems0 osem c ∗ Yk c) := by
  rw [show (pdats m 0 c).Φ (Fin.last _) = phi1 c from rfl,
    show (Pipeline.scopedRest (Pipeline.pin (pcfgs (F := F)) adm 0).spec c : sProp 𝕄) = BI.emp from scopedRest0_eq c]
  unfold phi1 Yk StableHlo.held
  rw [BI.bigSep_empty]
  iintro ⟨Hb, Hh, Hp⟩
  isplitr; · iempintro
  isplitl [Hp]; · iexact Hp
  isplitr; · iempintro
  isplitl [Hh]; · iapply (ownSems_of_hops c) $$ Hh
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- A device owes nothing but receive credits of hops and its two barrier units, all of them above level 0. -/
theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have hb : ∀ d : Dev nD, 0 < tallyAt (barCell d) () 1 g u → u ∈ L g ∧ 0 < lv g u := fun d h => by
    rw [tallyAt_apply] at h
    split at h
    · next hg => obtain ⟨rfl, rfl⟩ := hg; exact ⟨by rw [L_tc]; exact Finset.mem_singleton_self _, by rw [lv_bar]; exact Nat.one_pos⟩
    · exact absurd h (Nat.lt_irrefl 0)
  rcases Nat.add_pos_iff_pos_or_pos.mp h with h | h
  · rcases Nat.add_pos_iff_pos_or_pos.mp h with h | h
    · obtain ⟨n, -, rfl⟩ := owedFrom_pos h
      exact ⟨by rw [L_tc]; exact Finset.mem_singleton_self _, by rw [lv_recv]; exact Nat.succ_pos _⟩
    · exact hb _ h
  · exact hb _ h

theorem cutD (c : Dev nD) (t : Fin ((Pipeline.pin (pcfgs (F := F)) adm 0).N + 1)) (g : GSem nD τ sig) (i : Unit)
    (h : 0 < (pdats (F := F) m 0 c).owed t g i) : i ∈ L g ∧ 0 < lv g i := by
  obtain ⟨n, hn⟩ := t
  match n, hn, h with
  | 0, _, h => exact O₀_pos (c := c) h
  | n + 1, _, h => exact absurd h (Nat.lt_irrefl 0)

/-- The result array at the region's end. -/
theorem arrAt_out (c : Dev nD) : (pdats m 0 c).arrAt (2 : Fin 3) cfg0.N = (yAll m : (main_v38 : Ref sig .tc).ty.Contents (Elt F)) := by
  refine (pdats m 0 c).arrAt_eq_of_after_last (2 : Fin 3) t0_0 (by decide +kernel) _ fun j => ?_
  unfold pdats
  rfl

theorem V12_v38 (c : Dev nD) : V12 m (outs m) c main_v38 = (yAll m : (main_v38 : Ref sig .tc).ty.Contents (Elt F)) := by
  unfold V12
  rw [Function.update_self]
  exact outs_v38 m 12 c

theorem arrAt_x (c : Dev nD) : (pdats m 0 c).arrAt (0 : Fin 3) cfg0.N = V12 m (outs m) c main_v37 := by
  rw [V12_of m (outs m) c main_v37 (by decide), (pdats m 0 c).arrAt_in (0 : Fin 3) (by decide) _]
  unfold pdats
  generalize V11 m c = V
  rfl
theorem arrAt_w (c : Dev nD) : (pdats m 0 c).arrAt (1 : Fin 3) cfg0.N = V12 m (outs m) c main_arg3 := by
  rw [V12_of m (outs m) c main_arg3 (by decide), (pdats m 0 c).arrAt_in (1 : Fin 3) (by decide) _]
  unfold pdats
  generalize V11 m c = V
  rfl
theorem arrAt_y (c : Dev nD) : (pdats m 0 c).arrAt (2 : Fin 3) cfg0.N = V12 m (outs m) c main_v38 :=
  (arrAt_out m c).trans (V12_v38 m c).symm

theorem arrAt_end (c : Dev nD) (w : Fin 3) :
    (pdats m 0 c).arrAt w cfg0.N = V12 m (outs m) c (Proc.devRef .tc (Pipeline.arrRef cfg0.spec w)) := by
  fin_cases w
  · exact arrAt_x m c
  · exact arrAt_w m c
  · exact arrAt_y m c

/-- The semaphores of the staging copies are at level 0. -/
theorem stage_level : ∀ (w : Fin 3) (s : Fin (win0 w).nbuf), lvS (.dma ((win0 w).sem s)) ≤ 0 := by decide

/-- The buffers that bypass the region. -/
abbrev others : Finset (DevRef τ sig) := Pipeline.ucRefs τ sig \ Pipeline.arrRefs spec0

/-- They are left as they were. -/
theorem others_kept (c : Dev nD) (b : DevRef τ sig) (hb : b ∈ others) : V12 m (outs m) c b = V11 m c b := by
  refine Function.update_of_ne (fun h => ?_) _ _
  subst h
  exact (Finset.mem_sdiff.mp hb).2 (by decide)

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others) (Finset.empty_subset _) kitP rfl (fun c => (body_obligation m c).loose) (fun _ => 0) O₀
    (fun c => (zero_add (O₀ c)).symm) (fun _ => rfl) (fun _ => rfl) (fun _ _ => by unfold Dat.share; split <;> rfl) (V11 m) (V12 m (outs m))
    (fun c b hb => others_kept m c b (Finset.mem_sdiff.mp hb).1)
    (Tk m) Yk (Xk m) Yk (hopen m) (hin m) (hout m) (fun _ => fupd_intro) (fun _ => 0)
    ⟨fun c w s => by rw [L_tc]; exact Finset.mem_singleton_self _, fun _ w s => stage_level w s, fun c t g i h => cutD m c t g i h⟩
    (fun _ => iprop(emp)) (fun c w => rfl) (arrAt_end m)

/-- What a device carries beside its buffers up to the region, -/
abbrev E0 (c : Dev nD) : sProp 𝕄 := iprop(start (yAll m) c ∗ (∃ r, prngReg c r) ∗ ∃ Wt, owes (c : Thread nD τ) (O₀ c) Wt)
/-- and from the region on. -/
abbrev E1 (c : Dev nD) : sProp 𝕄 :=
  iprop(semVal (barCell c) 0 ∗ ∃ Wt, owes (c : Thread nD τ) (0 : CellTallies nD τ sig Unit) Wt)

theorem arrays_sub : Pipeline.arrRefs spec0 ⊆ Pipeline.ucRefs τ sig := by decide

theorem reg_pre (c : Dev nD) :
    iprop(StableHlo.held (c : Thread nD τ) (Pipeline.ucRefs τ sig) (V11 m c) ∗ E0 m c) ⊢ (reg m).pre c := by
  show _ ⊢ iprop(StableHlo.held (c.tc : Thread nD τ) (Pipeline.arrRefs spec0) (V11 m c) ∗ (∃ r, prngReg c r)
    ∗ (StableHlo.held (c.tc : Thread nD τ) (others) (V11 m c) ∗ emp) ∗ Tk m c ∗ ∃ Wd, owes (c : Thread nD τ) (0 + O₀ c) Wd)
  rw [StableHlo.held_sub_split (c : Thread nD τ) arrays_sub (V11 m c), zero_add]
  iintro ⟨⟨Ha, Hr⟩, Hs, Hp, HO⟩
  isplitl [Ha]; · iexact Ha
  isplitl [Hp]; · iexact Hp
  isplitl [Hr]
  · isplitl [Hr]; · iexact Hr
    iempintro
  isplitl [Hs] <;> iassumption

theorem reg_post (c : Dev nD) : (reg m).post c
    ⊢ iprop(StableHlo.held (c : Thread nD τ) (Pipeline.ucRefs τ sig) (V12 m (outs m) c) ∗ E1 c) := by
  show iprop(StableHlo.held (c.tc : Thread nD τ) (Pipeline.arrRefs spec0) (V12 m (outs m) c) ∗ (∃ r, prngReg c r)
    ∗ (StableHlo.held (c.tc : Thread nD τ) (others) (V12 m (outs m) c) ∗ emp) ∗ Yk c
    ∗ ∃ Wd, owes (c : Thread nD τ) (0 : CellTallies nD τ sig Unit) Wd) ⊢ _
  rw [StableHlo.held_sub_split (c : Thread nD τ) arrays_sub (V12 m (outs m) c)]
  iintro ⟨Ha, -, ⟨Hr, -⟩, Hb, HO⟩
  isplitl [Ha Hr]
  · isplitl [Ha] <;> iassumption
  isplitl [Hb] <;> iassumption

end Cert.Proof

end
-- ==== Proof.Launch.lean ====
/-
  The launch: the ghost state of the ring made and dealt to the devices, and the run of @main.
-/
module

public import proofs.«01_k».proof.Proof.Region

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

/-! ## The cells and the tokens, as families over the devices -/

/-- The barrier cells, -/
noncomputable def barEmb : Dev nD ↪ GSem nD τ sig := ⟨fun c => barCell c, fun _ _ h => congrArg (fun g : GSem nD τ sig => g.1.1) h⟩
/-- the DMA cells, -/
noncomputable def dmaEmb : Dev nD × Fin 14 ↪ GSem nD τ sig :=
  ⟨fun ck => dmaCell ck.1 ck.2, fun _ _ h =>
    Prod.ext (congrArg (fun g : GSem nD τ sig => g.1.1) h) (dmaS_injective (SemLoc.dma.inj (congrArg Prod.snd h)))⟩
/-- and the duties: two at a barrier cell, one at a DMA cell. -/
noncomputable def dutyOf (c : Dev nD) : Bool ⊕ Fin 14 → GSem nD τ sig × ℕ × Bool
  | .inl d => (barCell c, 0, d)
  | .inr k => (dmaCell c k, 0, false)

theorem dutyOf_dev (c : Dev nD) (x : Bool ⊕ Fin 14) : (dutyOf c x).1.1.1 = c := by cases x <;> rfl

theorem dutyOf_inj (c : Dev nD) : Function.Injective (dutyOf c) := fun x y h => by
  rcases x with d | k <;> rcases y with d' | k'
  · exact congrArg Sum.inl (congrArg (fun t => t.2.2) h)
  · exact absurd (congrArg (fun t => t.1.2) h).symm (dma_ne_bar _)
  · exact absurd (congrArg (fun t => t.1.2) h) (dma_ne_bar _)
  · exact congrArg Sum.inr (dmaS_injective (SemLoc.dma.inj (congrArg (fun t => t.1.2) h)))

noncomputable def dutyEmb : Dev nD × (Bool ⊕ Fin 14) ↪ GSem nD τ sig × ℕ × Bool :=
  ⟨fun cx => dutyOf cx.1 cx.2, fun a b h => by
    have h1 : a.1 = b.1 := by rw [← dutyOf_dev a.1 a.2, ← dutyOf_dev b.1 b.2]; exact congrArg (fun t => t.1.1.1) h
    refine Prod.ext h1 (dutyOf_inj a.1 ?_)
    have h2 : dutyOf a.1 a.2 = dutyOf b.1 b.2 := h
    rw [h2, h1]⟩

noncomputable abbrev barCells : Finset (GSem nD τ sig) := Finset.univ.map barEmb
noncomputable abbrev dmaCells : Finset (GSem nD τ sig) := Finset.univ.map dmaEmb
noncomputable abbrev duties : Finset (GSem nD τ sig × ℕ × Bool) := Finset.univ.map dutyEmb

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact dma_ne_bar _ (congrArg Prod.snd h)

theorem bar_mem (c : Dev nD) : barCell c ∈ (barCells ∪ dmaCells : Finset (GSem nD τ sig)) :=
  Finset.mem_union_left _ (Finset.mem_map_of_mem barEmb (Finset.mem_univ c))
theorem dma_mem (c : Dev nD) (k : Fin 14) : dmaCell c k ∈ (barCells ∪ dmaCells : Finset (GSem nD τ sig)) :=
  Finset.mem_union_right _ (Finset.mem_map_of_mem dmaEmb (Finset.mem_univ (c, k)))

/-- The ghost state at launch: the staging copies' and the ring's. -/
noncomputable def u₀ : UU :=
  (initOf (Pipeline.cells cfgs cellOf_inj) (Pipeline.launchToks cfgs cellOf_inj), launchOf barCells dmaCells duties)

/-- The ring's half of it, all of it on device 0. -/
noncomputable def G (c : Dev nD) : sProp 𝕄 := if c = 0 then BI.own (ER (launchOf barCells dmaCells duties)) else iprop(emp)

omit [FloatOps F] in
theorem bigSep_G : bigSep Finset.univ (G (F := F)) = BI.own (ER (launchOf barCells dmaCells duties)) := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-! ## What every device may consult, and what goes to one device -/

section Deal

variable (Y : OBuf F)

/-- Every cell's invariant, and that round 0 of every barrier cell is reached. -/
noncomputable def records (K : Names) : sProp 𝕄 :=
  iprop((bigSep (barCells ∪ dmaCells) fun g => cellInv ER (ringRd Y) (K g) g) ∗ bigSep barCells fun g => reached ER g 0)

omit [FloatOps F] in
instance records_persistent (K : Names) : BI.Persistent (records Y K) := by unfold records; infer_instance

/-- A device's position, its rights to open and its tokens. -/
noncomputable def linear (c : Dev nD) : sProp 𝕄 :=
  iprop(atPos ER (barCell c) 0 ∅ 0 ∗ (bigSep Finset.univ fun k : Fin 14 => openTok ER (dmaCell c k)) ∗ tokens c)

omit [FloatOps F] in
theorem records_inv (K : Names) {g : GSem nD τ sig} (hg : g ∈ (barCells ∪ dmaCells : Finset (GSem nD τ sig))) :
    records Y K ⊢ cellInv ER (ringRd Y) (K g) g := by
  unfold records; iintro ⟨H, -⟩
  iapply (show (bigSep (barCells ∪ dmaCells) fun g => (cellInv ER (ringRd Y) (K g) g : sProp 𝕄)) ⊢ cellInv ER (ringRd Y) (K g) g
    from bigSep_elim hg) $$ H

omit [FloatOps F] in
theorem records_reached (K : Names) (c : Dev nD) : records Y K ⊢ reached ER (barCell c) 0 := by
  unfold records; iintro ⟨-, H⟩
  iapply (show (bigSep barCells fun g => (reached ER g 0 : sProp 𝕄)) ⊢ reached ER (barCell c) 0
    from bigSep_elim (Finset.mem_map_of_mem barEmb (Finset.mem_univ c))) $$ H

omit [FloatOps F] in
theorem records_dma (K : Names) (c : Dev nD) :
    records Y K ⊢ bigSep Finset.univ fun k : Fin 14 => cellInv ER (ringRd Y) (K (dmaCell c k)) (dmaCell c k) :=
  (BI.bigSep_of_persistent Finset.univ (records Y K)).trans (bigSep_mono fun k _ => records_inv Y K (dma_mem c k))

omit [FloatOps F] in
theorem start_intro (K : Names) (c : Dev nD) : iprop(records Y K ∗ linear c ∗ credits c) ⊢ start Y c := by
  unfold linear start invs
  iintro ⟨#HR, ⟨Ha, Ho, Ht⟩, Hc⟩
  iexists K
  isplitr
  · isplitr; · iapply (records_inv Y K (bar_mem c)) $$ HR
    isplitr; · iapply (records_inv Y K (bar_mem (nxt c))) $$ HR
    isplitr; · iapply (records_inv Y K (bar_mem (prv c))) $$ HR
    isplitr; · iapply (records_dma Y K c) $$ HR
    isplitr; · iapply (records_dma Y K (nxt c)) $$ HR
    isplitr; · iapply (records_reached Y K (nxt c)) $$ HR
    iapply (records_reached Y K (prv c)) $$ HR
  isplitl [Ha]; · iexact Ha
  isplitl [Ho]; · iexact Ho
  isplitl [Ht] <;> iassumption

end Deal

omit [FloatOps F] in
/-- The tokens, each with the device that pays its duty. -/
theorem tokens_dealt : bigSep duties (fun x => (dutyTok ER x.1 x.2.1 x.2.2 : sProp 𝕄)) ⊢ bigSep Finset.univ fun c : Dev nD => tokens c := by
  have h : ∀ c : Dev nD, bigSep Finset.univ (fun x : Bool ⊕ Fin 14 => (dutyTok ER (dutyOf c x).1 (dutyOf c x).2.1 (dutyOf c x).2.2 : sProp 𝕄))
      = iprop((dutyTok ER (barCell c) 0 true ∗ dutyTok ER (barCell c) 0 false)
        ∗ (bigSep Finset.univ fun h : Fin 7 => dutyTok ER (dmaCell c (sIx h)) 0 false)
        ∗ (bigSep Finset.univ fun h : Fin 7 => dutyTok ER (dmaCell c (rIx h)) 0 false)) := fun c => by
    rw [bigSep_univ_sum, show (Finset.univ : Finset Bool) = {true, false} from by decide, bigSep_insert (by decide), bigSep_singleton,
      bigSep_fin14]
    rfl
  unfold duties
  rw [bigSep_map, bigSep_univ_prod,
    show (fun c : Dev nD => bigSep Finset.univ fun x : Bool ⊕ Fin 14 => (dutyTok ER (dutyEmb (c, x)).1 (dutyEmb (c, x)).2.1 (dutyEmb (c, x)).2.2 : sProp 𝕄))
      = _ from funext h]
  unfold tokens
  rw [bigSep_sep', bigSep_sep', bigSep_sep', bigSep_sep', bigSep_sep', bigSep_sep',
    bigSep_univ_equiv ring (fun c : Dev nD => (dutyTok ER (barCell c) 0 true : sProp 𝕄)),
    bigSep_univ_equiv ringBack (fun c : Dev nD => (dutyTok ER (barCell c) 0 false : sProp 𝕄)),
    bigSep_univ_equiv ring (fun c : Dev nD => bigSep Finset.univ fun h : Fin 7 => (dutyTok ER (dmaCell c (rIx h)) 0 false : sProp 𝕄))]
  iintro ⟨⟨Ha, Hb⟩, Hc, Hd⟩
  isplitl [Ha]; · iexact Ha
  isplitl [Hb]; · iexact Hb
  isplitl [Hc]; · iexact Hc
  iexact Hd

/-! ## The launch credit -/

theorem owedFrom_bar (d c : Dev nD) : owedFrom d 0 (barCell c) () = 0 := by
  by_contra h
  obtain ⟨k, -, hk⟩ := owedFrom_pos (Nat.pos_of_ne_zero h)
  exact dma_ne_bar _ (congrArg Prod.snd hk).symm

theorem owed_bar (d c : Dev nD) : O₀ d (barCell c) () = (if d = prv c then 1 else 0) + if d = nxt c then 1 else 0 := by
  have e : ∀ (c' : Dev nD), tallyAt (barCell c') () 1 (barCell c) () = if c = c' then 1 else 0 := fun c' => by
    rw [tallyAt_apply]
    by_cases h : c = c'
    · subst h; rw [if_pos ⟨rfl, rfl⟩, if_pos rfl]
    · rw [if_neg fun hh => h (congrArg (fun g : GSem nD τ sig => g.1.1) hh.1), if_neg h]
  unfold O₀
  rw [Pi.add_apply, Finsupp.add_apply, Pi.add_apply, Finsupp.add_apply, owedFrom_bar, Nat.zero_add, e, e,
    if_congr (show c = nxt d ↔ d = prv c from ⟨fun h => by rw [h, prv_nxt], fun h => by rw [h, nxt_prv]⟩) rfl rfl,
    if_congr (show c = prv d ↔ d = nxt c from ⟨fun h => by rw [h, nxt_prv], fun h => by rw [h, prv_nxt]⟩) rfl rfl]

theorem owed_recv (d c : Dev nD) (h : Fin 7) : O₀ d (dmaCell c (rIx h)) () = if d = prv c then N else 0 := by
  have hb : ∀ c' : Dev nD, tallyAt (barCell c') () 1 (dmaCell c (rIx h)) () = 0 := fun c' => by
    rw [tallyAt_ne_cell (fun hh => dma_ne_bar _ (congrArg Prod.snd hh)), Finsupp.zero_apply]
  unfold O₀ owedFrom
  rw [Pi.add_apply, Finsupp.add_apply, Pi.add_apply, Finsupp.add_apply, hb, hb, Finset.sum_apply, Finsupp.finset_sum_apply]
  simp only [Nat.add_zero]
  by_cases e : d = prv c
  · subst e
    rw [nxt_prv, if_pos rfl, Finset.sum_eq_single h (fun h' _ hne => by
        rw [tallyAt_apply, if_neg fun hh => hne (Fin.ext (by
          have := congrArg Fin.val (dmaS_injective (SemLoc.dma.inj (congrArg Prod.snd hh.1)))
          have : h.val + 7 = h'.val + 7 := this
          omega))]) (fun hn => absurd (by simp) hn), tallyAt_apply, if_pos ⟨rfl, rfl⟩]
  · rw [if_neg e]
    refine Finset.sum_eq_zero fun h' _ => ?_
    rw [tallyAt_apply, if_neg fun hh => e ?_]
    have hc : c = nxt d := congrArg (fun g : GSem nD τ sig => g.1.1) hh.1
    rw [hc, prv_nxt]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _),
    if_pos (Finset.mem_univ _)]

theorem launch_recv (c : Dev nD) (h : Fin 7) :
    tallyOn (dmaCell c (rIx h)) (launchCredit (Pipeline.owing O₀) 0 (dmaCell c (rIx h))) = (tallyAt (dmaCell c (rIx h)) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (prv c) fun _ => N, if_pos (Finset.mem_univ _)]

/-- A device's receive semaphores. -/
noncomputable def recvEmb : Fin 7 ↪ SemLoc sig := ⟨fun h => .dma (dmaS (rIx h)), fun a b h => Fin.ext (by
  have := congrArg Fin.val (dmaS_injective (SemLoc.dma.inj h))
  have : a.val + 7 = b.val + 7 := this
  omega)⟩

omit [FloatOps F] in
theorem credits_intro (c : Dev nD) : (Pipeline.launchCred O₀ c : sProp 𝕄) ⊢ credits c := by
  unfold Pipeline.launchCred credits
  rw [bigSep_univ_at _ (SemLoc.reg barS), launch_bar]
  refine sep_mono_right ?_
  have hs : Finset.univ.map recvEmb ⊆ Finset.univ.erase (SemLoc.reg barS : SemLoc sig) := fun x hx => by
    obtain ⟨h, -, rfl⟩ := Finset.mem_map.mp hx
    exact Finset.mem_erase.mpr ⟨dma_ne_bar _, Finset.mem_univ _⟩
  refine (BI.bigSep_subset hs).trans ?_
  rw [bigSep_map]
  exact bigSep_mono fun h _ => Entails.of_eq (congrArg cred (launch_recv c h))

omit [FloatOps F] in
/-- The one counter that outlives the region is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-! ## The run -/

variable (m : (ℓ : Loc nD τ sig) → Buf (Elt F) ℓ) (ρ : Dev nD → PrngReg)

/-- What each device carries beside its buffers. -/
noncomputable def rest (i : Fin 2) (c : Dev nD) : sProp 𝕄 := if i = 0 then E0 m c else E1 c

theorem rest_zero (c : Dev nD) : rest m 0 c = E0 m c := if_pos rfl
theorem rest_one (c : Dev nD) : rest m 1 c = E1 c := if_neg (by decide)

/-- The launch makes what each device carries into the region. -/
theorem launch :
    iprop((bigSep Finset.univ fun c : Dev nD => iprop(unscopedSems0 c ∗ owes (c : Thread nD τ) (O₀ c) ∅ ∗ Pipeline.launchCred O₀ c
        ∗ prngReg c (ρ c) ∗ G c)) ∗ levAts L lv)
      ⊢ (|={Set.univ}=> bigSep Finset.univ (rest m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((credits c ∗ prngReg c (ρ c) ∗ owes (c : Thread nD τ) (O₀ c) ∅) ∗ (semVal (barCell c) 0 ∗ G c)) : sProp 𝕄) := by
    rw [unscopedSems0_eq]
    iintro ⟨Hs, HO, Hc, Hp, HG⟩
    isplitr [Hs HG]
    · isplitl [Hc]; · iapply (credits_intro c) $$ Hc
      isplitl [Hp] <;> iassumption
    isplitl [Hs] <;> iassumption
  have hgive (K : Names) (c : Dev nD) : iprop(records (yAll m) K ∗ (linear c ∗ (credits c ∗ prngReg c (ρ c) ∗ owes (c : Thread nD τ) (O₀ c) ∅)))
      ⊢ rest m 0 c := by
    rw [rest_zero]
    iintro ⟨HR, Hl, Hc, Hp, HO⟩
    isplitl [HR Hl Hc]
    · iapply (start_intro (yAll m) K c)
      isplitl [HR]; · iexact HR
      isplitl [Hl] <;> iassumption
    isplitl [Hp]; · iexists (ρ c); iexact Hp
    iexists ∅; iexact HO
  have hat : bigSep barCells (fun g => (atPos ER g 0 ∅ 0 : sProp 𝕄)) ⊢ bigSep Finset.univ (fun c : Dev nD => (atPos ER (barCell c) 0 ∅ 0 : sProp 𝕄)) :=
    Entails.of_eq (bigSep_map barEmb)
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hop : bigSep dmaCells (fun g => (openTok ER g : sProp 𝕄))
      ⊢ bigSep Finset.univ (fun c : Dev nD => bigSep Finset.univ fun k : Fin 14 => (openTok ER (dmaCell c k) : sProp 𝕄)) :=
    Entails.of_eq (by rw [bigSep_map, bigSep_univ_prod]; rfl)
  iintro ⟨H, -⟩
  ihave H1 := (show _ ⊢ bigSep Finset.univ fun c : Dev nD =>
      (iprop((credits c ∗ prngReg c (ρ c) ∗ owes (c : Thread nD τ) (O₀ c) ∅) ∗ (semVal (barCell c) 0 ∗ G c)) : sProp 𝕄)
    from bigSep_mono fun c _ => hcore c) $$ H
  ihave H2 := (Entails.of_eq (bigSep_sep' (s := Finset.univ) (Φ := fun c : Dev nD => (iprop(credits c ∗ prngReg c (ρ c) ∗ owes (c : Thread nD τ) (O₀ c) ∅) : sProp 𝕄))
    (Ψ := fun c : Dev nD => iprop(semVal (barCell c) 0 ∗ G c)))) $$ H1
  icases H2 with ⟨HB, H3⟩
  ihave H4 := (Entails.of_eq (bigSep_sep' (s := Finset.univ) (Φ := fun c : Dev nD => (semVal (barCell c) 0 : sProp 𝕄)) (Ψ := G))) $$ H3
  icases H4 with ⟨Hv, HG⟩
  imod (Rounds.fund_launch ER (ringRd (yAll m)) disjoint_cells (fun g _ h => h) duties) $$ [Hv HG] with ⟨%K, -, #HI, #HR, Ha, Ho, Ht⟩
  · isplitl [Hv]; · iapply hv $$ Hv
    iapply (Entails.of_eq (bigSep_G (F := F))) $$ HG
  imodintro
  iapply (bigSep_with_persistent (R := records (yAll m) K)
    (Φ := fun c => iprop(linear c ∗ (credits c ∗ prngReg c (ρ c) ∗ owes (c : Thread nD τ) (O₀ c) ∅))) fun c _ => hgive K c)
  isplitr
  · unfold records
    isplitr; · iexact HI
    iexact HR
  iapply (Entails.of_eq (bigSep_sep' (s := Finset.univ) (Φ := fun c : Dev nD => (linear c : sProp 𝕄))
    (Ψ := fun c : Dev nD => iprop(credits c ∗ prngReg c (ρ c) ∗ owes (c : Thread nD τ) (O₀ c) ∅))).symm)
  isplitr [HB]; swap; · iexact HB
  iapply (show iprop(bigSep Finset.univ (fun c : Dev nD => (atPos ER (barCell c) 0 ∅ 0 : sProp 𝕄))
      ∗ (bigSep Finset.univ fun c : Dev nD => bigSep Finset.univ fun k : Fin 14 => openTok ER (dmaCell c k))
      ∗ bigSep Finset.univ fun c : Dev nD => tokens c) ⊢ bigSep Finset.univ (fun c : Dev nD => linear c) from by
    unfold linear; rw [bigSep_sep', bigSep_sep'])
  isplitl [Ha]; · iapply hat $$ Ha
  isplitl [Ho]; · iapply hop $$ Ho
  iapply tokens_dealt $$ Ht

set_option backward.isDefEq.respectTransparency.types false in
/-- THE RUN: from any memory with zero counters, every weakly fair execution of @main on the eight devices terminates; every final
    state has the arguments as launched, the result at the last valuation, and every semaphore counter at zero. -/
theorem run_main : θ_run defs (onTc (τ := τ) (main (F := F))) ⟨m, fun _ => 0, ρ⟩ (fun r =>
    (∀ c : Dev nD, r.2.mem ((c.tc : Thread nD τ).loc main_v57) = V21 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Seg.run_eq_chain,
        show (segs m (outs m) 𝒱₀ L lv (rest m) () (pdats m) (reg m) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8 ] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [bigSep_G]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V21 m (outs m) c) ∗ semVal (barCell c) 0))
    (hch := fun c => ⟨.rfl, .rfl, .rfl, .rfl, .rfl, .rfl, .rfl, .rfl, .rfl, .rfl, .rfl, ?hpre, ?hpost, .rfl, .rfl, .rfl, .rfl, .rfl,
      .rfl, .rfl, .rfl, ?hend⟩)
    (hinit := ?hinit)
    (QY := fun c s => (s.mem ((c.tc : Thread nD τ).loc main_v57) = V21 m (outs m) c main_v57
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)) ∧ s.sem (barCell c) = 0)
    (hfin := fun c s' => ?hfin)
    (hQ := fun s h hs => ⟨fun c => (h c).1, sem_eq_zero hs fun c sm hsm => by
      obtain rfl := unscoped_eq sm hsm
      exact (h c).2⟩)
  case hpre =>
    show iprop(StableHlo.held (c : Thread nD τ) (Pipeline.ucRefs τ sig) (V11 m c) ∗ rest m 0 c) ⊢ (reg m).pre c
    rw [rest_zero]; exact reg_pre m c
  case hpost =>
    show (reg m).post c ⊢ iprop(StableHlo.held (c : Thread nD τ) (Pipeline.ucRefs τ sig) (V12 m (outs m) c) ∗ rest m 1 c)
    rw [rest_one]; exact reg_post m c
  case hend =>
    show iprop(StableHlo.held (c : Thread nD τ) (Pipeline.ucRefs τ sig) (V21 m (outs m) c) ∗ rest m 1 c)
      ⊢ iprop((StableHlo.held (c : Thread nD τ) (Pipeline.ucRefs τ sig) (V21 m (outs m) c) ∗ semVal (barCell c) 0)
        ∗ ∃ Wt, owes (c : Thread nD τ) (0 : CellTallies nD τ sig Unit) Wt)
    rw [rest_one]
    iintro ⟨Hh, Hb, HO⟩
    isplitr [HO]
    · isplitl [Hh] <;> iassumption
    iexact HO
  case hinit =>
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  case hfin =>
    unfold StableHlo.held
    iintro ⟨⟨Hh, Hb⟩, HSI⟩
    icombine HSI Hb gives %hb
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact ⟨⟨h (Proc.devRef .tc main_v57) (Finset.mem_filter.mpr ⟨StableHlo.devRef_mem_tcRefs main_v57, by decide⟩),
        (h (Proc.devRef .tc main_arg0) (Finset.mem_filter.mpr ⟨StableHlo.devRef_mem_tcRefs main_arg0, by decide⟩)).trans (V21_main_arg0 m (outs m) c),
        (h (Proc.devRef .tc main_arg1) (Finset.mem_filter.mpr ⟨StableHlo.devRef_mem_tcRefs main_arg1, by decide⟩)).trans (V21_main_arg1 m (outs m) c),
        (h (Proc.devRef .tc main_arg2) (Finset.mem_filter.mpr ⟨StableHlo.devRef_mem_tcRefs main_arg2, by decide⟩)).trans (V21_main_arg2 m (outs m) c),
        (h (Proc.devRef .tc main_arg3) (Finset.mem_filter.mpr ⟨StableHlo.devRef_mem_tcRefs main_arg3, by decide⟩)).trans (V21_main_arg3 m (outs m) c)⟩,
        by simpa using hb⟩
    iexact HSI

end Cert.Proof

end
-- ==== Proof.Frames.lean ====
module

public import proofs.«01_k».proof.Defs
public import proofs.«01_k».proof.Proof.Launch
public import proofs.«01_k».proof.Proof.Gen.Kernel
public import proofs.«01_k».proof.Proof.Gen.ReferenceIdeal.Run

/-! # The frames

Both readings of the kernel, and the reference, run to an end with their arguments as they were and every semaphore
counter at zero. -/

@[expose] public section

set_option maxRecDepth 16384

noncomputable section

namespace Cert.Proof

open Idealize.ShloMosaic Idealize.SL.Sem

/-- The side conditions of the precondition on the kernel's arguments. -/
instance factsPreK : Cert.Pre_routed_KernelIdeal.Facts := ⟨by decide, by decide, by decide⟩

/-- The side conditions of the precondition on the reference's arguments. -/
instance factsPreR : Cert.Pre_routed_ReferenceIdeal.Facts := ⟨by decide, by decide, by decide⟩

set_option maxHeartbeats 4000000 in
/-- Both readings of the kernel have one host program. -/
theorem main_eq_ideal : Cert.Kernel.main (F := Bits) = Cert.KernelIdeal.main (F := Bits) := rfl

set_option maxHeartbeats 4000000 in
/-- Both readings of the kernel have one body. -/
theorem defs₀_eq_ideal : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl

/-- Both readings of the kernel have one table of labels. -/
theorem defs_eq_ideal : Cert.Kernel.defs (F := Bits) = Cert.KernelIdeal.defs (F := Bits) := by
  unfold Cert.Kernel.defs Cert.KernelIdeal.defs
  exact congrArg _ defs₀_eq_ideal

/-- The kernel over floating-point words: its arguments end unchanged and its counters at zero. -/
theorem frame_kernel : Cert.quiescent_Kernel := by
  intro m ρ _
  rw [defs_eq_ideal, main_eq_ideal]
  exact (θ_run Cert.KernelIdeal.defs _ _).mono (fun _ h => ⟨fun c => (h.1 c).2, h.2⟩) (run_main (F := Bits) m ρ)

/-- The kernel over exact numbers: its arguments end unchanged and its counters at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The same from memories whose routes are in range. -/
theorem frame_kernelIdeal_routed : Cert.quiescent_KernelIdeal_pre_routed_KernelIdeal := fun m ρ _ =>
  frame_kernelIdeal m ρ trivial

/-- The reference: its arguments end unchanged and it has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same from memories whose routes are in range. -/
theorem frame_reference_routed : Cert.quiescent_ReferenceIdeal_pre_routed_ReferenceIdeal := fun m ρ _ =>
  frame_reference m ρ trivial

end Cert.Proof

end
-- ==== Proof.HostReads.lean ====
/-
  What each stretch of the kernel's host code leaves in the buffers that later code reads, as pure functions of the contents
  before the stretch.
-/
module

public import proofs.«01_k».proof.Proof.Gen.KernelIdeal.Regions
public import Idealize.ShloMosaic.Lib.StableHlo.Run
public import Idealize.ShloMosaic.Lib.Routing.Model

@[expose] public section

set_option maxRecDepth 16384

noncomputable section

namespace Cert.Proof

open Cert.KernelIdeal Cert.KernelIdeal.Gen
open Idealize.ShloMosaic Idealize.ShloMosaic.TcCoe Idealize.ShloMosaic.StableHlo
open Idealize.ShloMosaic.Routing (pyDiv pyRem)

variable {F : FTy → Type} [FloatOps F]

/-! ## The stretches as pure functions -/

/-- A number that every entry of a vector holds. -/
abbrev fill (n : BitVec 32) : IVec S2048 32 := broadcastInDim S2048 ![] bcast_S_S2048 (constantI S_ 32 n)

/-- The table that holds 1 where the token's route is the column's expert. -/
def oneHot (r : IVec S2048 32) : IVec S2048x64 32 :=
  extui 32 (cmpi .eq (broadcastInDim S2048x64 ![0, 1] bcast_S2048x1_S2048x64_0_1 (broadcastInDim S2048x1 ![0] bcast_S2048_S2048x1_0 r))
    (broadcastInDim S2048x64 ![0, 1] bcast_S1x64_S2048x64_0_1 (broadcastInDim S1x64 ![1] bcast_S64_S1x64_1 (iotaInDim S64 32 0)))) natLt_1_32

/-- The running sums down its columns. -/
def runningSum (x : IVec S2048x64 32) : IVec S2048x64 32 :=
  Host.reduceWindow IntOp.addi ![2048, 1] ![1, 1] ![2047, 0] ![0, 0] x (broadcastInDim S_ ![] bcast_S_S_ (constantI S_ 32 0#32))
    reduceWindows_S2048x64_S2048x64_w2048s1p2047_0_w1s1p0_0 h_S_

/-- A column index, a negative one counted from the end, as a box of one lane. -/
def wrapped (r : IVec S2048x1 32) : IVec S2048x1x1 32 :=
  shapeCast S2048x1x1 (select (cmpi .slt r (broadcastInDim S2048x1 ![] bcast_S_S2048x1 (constantI S_ 32 0#32)))
    (addi r (broadcastInDim S2048x1 ![] bcast_S_S2048x1 (constantI S_ 32 64#32))) r) shapeCasts_S2048x1_S2048x1x1

/-- One entry of each row, at the row's column index, and the least word where that index is outside the table. -/
def takeAlong (x : IVec S2048x64 32) (r : IVec S2048x1 32) : IVec S2048x1 32 :=
  select (Host.reduce IntOp.andi (andi (cmpi .sge (wrapped r) (broadcastInDim S2048x1x1 ![] bcast_S_S2048x1x1 (constantI S_ 32 0#32)))
      (cmpi .sle (wrapped r) (broadcastInDim S2048x1x1 ![0, 1, 2] bcast_S1x1x1_S2048x1x1_0_1_2 (broadcastInDim S1x1x1 ![2] bcast_S1_S1x1x1_2 (constantI S1 32 63#32)))))
      (constantI S_ 1 1#1) reducesTo_S2048x1x1_S2048x1_d2 h_S_)
    (Host.gather gather_S2048x64_S2048x1x1_S2048x1_n_1_0_0_1_2_11 x (wrapped r))
    (broadcastInDim S2048x1 ![] bcast_S_S2048x1 (constantI S_ 32 2147483648#32))

/-- A row index, a negative one counted from the end `n`, as a column. -/
def rowIndex (n : BitVec 32) (s : IVec S2048 32) : IVec S2048x1 32 :=
  broadcastInDim S2048x1 ![0] bcast_S2048_S2048x1_0 (select (cmpi .slt s (fill 0#32)) (addi s (fill n)) s)

/-- The rows written into an empty buffer of slots. -/
def slotRows (s : IVec S2048 32) (x : FVec F S2048x1024 .bf16) : FVec F S256x1024 .bf16 :=
  Host.scatter scatter_S256x1024_S2048x1_S2048x1024_1_0_0_1 (fun _ b => b)
    (broadcastInDim S256x1024 ![] bcast_S_S256x1024 (constant S_ .bf16 0x0000#16)) (rowIndex 256#32 s) x

/-! ## What the stretches leave -/

variable (V : Valuation τ sig (Elt F))

/-- The device's number modulo eight. -/
theorem read_v4 (c : Dev nD) : after (hostOps0 c) V main_v4 = (id (Host.remui (Host.divui (constantI S_ 32 (Dev.word c)) (constantI S_ 32 1#32)) (constantI S_ 32 8#32)) : IVec S_ 32) := by
  after_results_simp <;> rfl

/-- The routes as a vector. -/
theorem read_v5 (c : Dev nD) : after (hostOps0 c) V main_v5 = (shapeCast S2048 (V main_arg2) shapeCasts_S2048x1_S2048 : IVec S2048 32) := by
  after_results_simp <;> rfl

/-- The one-hot table of the routes. -/
theorem read_v12 (c : Dev nD) : after (hostOps0 c) V main_v12 = oneHot (shapeCast S2048 (V main_arg2) shapeCasts_S2048x1_S2048) := by
  after_results_simp <;> rfl

/-- Its running sums. -/
theorem read_v13 : after (hostOps0_1) V main_v13 = runningSum (V main_v12) := by
  unfold runningSum
  after_results_simp
  simp only [TRef.ofBuf, TRef.toBuf, cast_eq]

/-- The routes as a column. -/
theorem read_v14 : after (hostOps0_2) V main_v14 = (broadcastInDim S2048x1 ![0] bcast_S2048_S2048x1_0 (V main_v5) : IVec S2048x1 32) := by
  after_results_simp <;> rfl

/-- The running sum in each token's own column. -/
theorem read_v15 : after (hostOps0_3) V main_v15 = takeAlong (V main_v13) (V main_v14) := by
  after_results_simp <;> rfl

/-- The ranks. -/
theorem read_v18 : after (hostOps0_4) V main_v18 = (subi (shapeCast S2048 (V main_v15) shapeCasts_S2048x1_S2048) (fill 1#32) : IVec S2048 32) := by
  after_results_simp <;> rfl

/-- Whether the token is kept. -/
theorem read_v20 : after (hostOps0_4) V main_v20 = (cmpi .slt (subi (shapeCast S2048 (V main_v15) shapeCasts_S2048x1_S2048) (fill 1#32)) (fill 25#32) : IVec S2048 1) := by
  after_results_simp <;> rfl

/-- The number of experts on a device. -/
theorem read_c_3 : after (hostOps0_4) V main_c_3 = (constantI S_ 32 8#32 : IVec S_ 32) := by
  after_results_simp <;> rfl

/-- The device of each token's expert. -/
theorem read_v21 : after (hostOps0_5) V main_v21 = (pyDiv bcast_S_S2048 (V main_v5) (V main_c_3) : IVec S2048 32) := by
  after_results_simp <;> rfl

/-- Whether the token is kept on this device. -/
theorem read_v24 : after (hostOps0_6) V main_v24 = (andi (cmpi .eq (V main_v21) (broadcastInDim S2048 ![] bcast_S_S2048 (V main_v4))) (V main_v20) : IVec S2048 1) := by
  after_results_simp <;> rfl

/-- The number of experts on a device. -/
theorem read_c_4 : after (hostOps0_6) V main_c_4 = (constantI S_ 32 8#32 : IVec S_ 32) := by
  after_results_simp <;> rfl

/-- The expert's place on its device. -/
theorem read_v25 : after (hostOps0_7) V main_v25 = (pyRem bcast_S_S2048 (V main_v5) (V main_c_4) : IVec S2048 32) := by
  unfold pyRem Routing.divGuard
  after_results_simp
  simp only [TRef.ofBuf, TRef.toBuf, cast_eq]
  rfl

/-- The slot of a kept token. -/
theorem read_v28 : after (hostOps0_8) V main_v28 = (addi (muli (V main_v25) (fill 32#32)) (V main_v18) : IVec S2048 32) := by
  after_results_simp <;> rfl

/-- The number of slots. -/
theorem read_c_6 : after (hostOps0_8) V main_c_6 = (constantI S_ 32 256#32 : IVec S_ 32) := by
  after_results_simp <;> rfl

/-- The slot, past the last one for a token that is not kept here. -/
theorem read_v29 : after (hostOps0_9) V main_v29 = (select (V main_v24) (V main_v28) (broadcastInDim S2048 ![] bcast_S_S2048 (V main_c_6)) : IVec S2048 32) := by
  after_results_simp <;> rfl

/-- The rows in their slots. -/
theorem read_v37 : after (hostOps0_10) V main_v37 = slotRows (V main_v29) (V main_arg0) := by
  after_results_simp <;> rfl

/-- The number of experts on a device. -/
theorem read_c_9 : after (hostOps1) V main_c_9 = (constantI S_ 32 8#32 : IVec S_ 32) := by
  after_results_simp <;> rfl

/-- The device of each token's expert, once more. -/
theorem read_v39 : after (hostOps1_1) V main_v39 = (pyDiv bcast_S_S2048 (V main_v5) (V main_c_9) : IVec S2048 32) := by
  after_results_simp <;> rfl

/-- The first row of its slab. -/
theorem read_v41 : after (hostOps1_2) V main_v41 = (muli (V main_v39) (fill 256#32) : IVec S2048 32) := by
  after_results_simp <;> rfl

/-- The number of experts on a device. -/
theorem read_c_11 : after (hostOps1_2) V main_c_11 = (constantI S_ 32 8#32 : IVec S_ 32) := by
  after_results_simp <;> rfl

/-- The expert's place on its device, once more. -/
theorem read_v42 : after (hostOps1_3) V main_v42 = (pyRem bcast_S_S2048 (V main_v5) (V main_c_11) : IVec S2048 32) := by
  unfold pyRem Routing.divGuard
  after_results_simp
  simp only [TRef.ofBuf, TRef.toBuf, cast_eq]
  rfl

/-- The token's row in the gathered buffer. -/
theorem read_v46 : after (hostOps1_4) V main_v46 = (addi (addi (V main_v41) (muli (V main_v42) (fill 32#32))) (V main_v18) : IVec S2048 32) := by
  after_results_simp <;> rfl

/-- The least row. -/
theorem read_c_13 : after (hostOps1_4) V main_c_13 = (constantI S_ 32 0#32 : IVec S_ 32) := by
  after_results_simp <;> rfl

/-- The greatest row. -/
theorem read_c_14 : after (hostOps1_4) V main_c_14 = (constantI S_ 32 2047#32 : IVec S_ 32) := by
  after_results_simp <;> rfl

/-- The row, clipped. -/
theorem read_v47 : after (hostOps1_5) V main_v47 = (minsi (broadcastInDim S2048 ![] bcast_S_S2048 (V main_c_14)) (maxsi (broadcastInDim S2048 ![] bcast_S_S2048 (V main_c_13)) (V main_v46)) : IVec S2048 32) := by
  after_results_simp <;> rfl

/-- Whether the token is kept, as a column. -/
theorem read_v48 : after (hostOps1_6) V main_v48 = (broadcastInDim S2048x1 ![0] bcast_S2048_S2048x1_0 (V main_v20) : IVec S2048x1 1) := by
  after_results_simp <;> rfl

/-- The rows gathered back. -/
theorem read_v55 : after (hostOps1_6) V main_v55 = (Host.gather gather_S2048x1024_S2048x1_S2048x1024_1_0_n_n_0_1_11024 (V main_v38) (rowIndex 2048#32 (V main_v47)) : FVec F S2048x1024 .bf16) := by
  after_results_simp <;> rfl

/-- The zero of a dropped token. -/
theorem read_cst_17 : after (hostOps1_6) V main_cst_17 = (constant S_ .bf16 0x0000#16 : FVec F S_ .bf16) := by
  after_results_simp <;> rfl

/-- The rows of the kept tokens, zero elsewhere. -/
theorem read_v56 : after (hostOps1_7) V main_v56 = (select (broadcastInDim S2048x1024 ![0, 1] bcast_S2048x1_S2048x1024_0_1 (V main_v48)) (V main_v55) (broadcastInDim S2048x1024 ![] bcast_S_S2048x1024 (V main_cst_17)) : FVec F S2048x1024 .bf16) := by
  after_results_simp <;> rfl

/-- The result. -/
theorem read_v57 : after (hostOps1_8) V main_v57 = (extf .f32 (V main_v56) bitsLt_bf16_f32 : FVec F S2048x1024 .f32) := by
  after_results_simp <;> rfl

end Cert.Proof

end
-- ==== Proof.Ranks.lean ====
/-
  The ranks that the kernel's host code counts: a token's rank is the number of earlier tokens that its expert was given.
-/
module

public import proofs.«01_k».proof.Proof.HostReads
public import Idealize.ShloMosaic.Lib.Routing.Words
public import Idealize.ShloMosaic.Lib.Routing.OpsOne
public import Idealize.ShloMosaic.Lib.ReduceAll

@[expose] public section

set_option maxRecDepth 16384

noncomputable section

namespace Cert.Proof

open Cert.KernelIdeal Cert.KernelIdeal.Gen
open Idealize.ShloMosaic Idealize.ShloMosaic.ValueIdx Idealize.ShloMosaic.WordCmp Idealize.ShloMosaic.Routing

/-! ## Counting -/

/-- The number of tokens before `i` that chose `i`'s expert. -/
def earlier (rt : ℕ → ℕ) (i : ℕ) : ℕ := Nat.count (fun j => rt j = rt i) i

/-- Fewer tokens than `i` come before `i`. -/
theorem earlier_le (rt : ℕ → ℕ) (i : ℕ) : earlier rt i ≤ i := Nat.count_le _

/-- Counting to `i` and including it finds one more. -/
theorem count_self (rt : ℕ → ℕ) (i : ℕ) : Nat.count (fun j => rt j = rt i) (i + 1) = earlier rt i + 1 := by
  rw [Nat.count_succ, if_pos rfl, earlier]

/-- Of two tokens of one expert, the later has more before it. -/
theorem earlier_lt (rt : ℕ → ℕ) {i j : ℕ} (h : rt i = rt j) (hij : i < j) : earlier rt i < earlier rt j := by
  have h1 : Nat.count (fun k => rt k = rt j) (i + 1) ≤ Nat.count (fun k => rt k = rt j) j := Nat.count_monotone _ hij
  rw [Nat.count_succ, if_pos h] at h1
  unfold earlier
  rw [h]
  omega

/-- Tokens of one expert with as many before them are one token. -/
theorem earlier_inj (rt : ℕ → ℕ) {i j : ℕ} (h : rt i = rt j) (he : earlier rt i = earlier rt j) : i = j := by
  rcases Nat.lt_trichotomy i j with hl | hl | hl
  · have := earlier_lt rt h hl; omega
  · exact hl
  · have := earlier_lt rt h.symm hl; omega

/-- The sum of a property's indicators over the first numbers counts them. -/
theorem sum_indicator (p : ℕ → Prop) [DecidablePred p] (n : ℕ) :
    ((List.range n).map fun i => if p i then 1 else 0).sum = Nat.count p n := by
  induction n with
  | zero => rfl
  | succ n ih => rw [List.range_succ, List.map_append, List.sum_append, ih, Nat.count_succ]; simp

/-! ## The table of running sums -/

/-- Every entry of a filled vector. -/
theorem fill_at (n : BitVec 32) (i : Fin 2048) : fill n (ix1 i) = n := bc0 bcast_S_S2048 _ _

variable {r : IVec S2048 32} {rt : ℕ → ℕ} (hr : ∀ i : Fin 2048, r (ix1 i) = BitVec.ofNat 32 (rt i.val)) (hrt : ∀ i, rt i < 64)

include hr hrt in
/-- The one-hot table marks the token's expert. -/
theorem oneHot_at (i : Fin 2048) (e : Fin 64) : oneHot r (ix2 i e) = BitVec.ofNat 32 (if rt i.val = e.val then 1 else 0) := by
  unfold oneHot
  show (cmpi .eq _ _ (ix2 i e)).setWidth 32 = _
  rw [cmpi_at]
  erw [bcRows bcast_S2048_S2048x1_0 bcast_S2048x1_S2048x64_0_1 r i e, bcCols bcast_S64_S1x64_1 bcast_S1x64_S2048x64_0_1 (iotaInDim S64 32 0) i e]
  rw [hr]
  erw [iota1_ap e]
  have h1 := hrt i.val
  have h2 := e.isLt
  rw [cmpi_eq_ofNat (w := 32) (by omega) (by omega), setWidth_ofBool]

include hr hrt in
/-- The running sum down a column counts the tokens so far that chose its expert. -/
theorem runningSum_at (j : Fin 2048) (e : Fin 64) :
    runningSum (oneHot r) (ix2 j e) = BitVec.ofNat 32 (Nat.count (fun i => rt i = e.val) (j.val + 1)) := by
  unfold runningSum
  rw [← sum_indicator]
  exact cumsum_rows (R := 2048) (Rm1 := 2047) (C := 64) rfl (oneHot r) (fun i c => if rt i = c then 1 else 0) (oneHot_at hr hrt) _
    (bc0 bcast_S_S_ _ _) reduceWindows_S2048x64_S2048x64_w2048s1p2047_0_w1s1p0_0 h_S_ j e

/-! ## The entry in each token's own column -/

/-- The gather of one entry of each row reads that row at the index that it is given, if the row has it. -/
theorem gather_rowwise {α : Type} (x : S2048x64.Idx → α) (idx : IVec S2048x1x1 32) (i : Fin 2048) (b : Fin 64)
    (hb : idx (ix3 i (0 : Fin 1) (0 : Fin 1)) = BitVec.ofNat 32 b.val) :
    Host.gather gather_S2048x64_S2048x1x1_S2048x1_n_1_0_0_1_2_11 x idx (ix2 i (0 : Fin 1)) = x (ix2 i b) := by
  unfold Host.gather
  refine congrArg x (funext fun a => Fin.ext ?_)
  match a with
  | ⟨0, _⟩ =>
    show 0 + i.val + 0 = i.val
    omega
  | ⟨1, _⟩ =>
    have hs : gather_S2048x64_S2048x1x1_S2048x1_n_1_0_0_1_2_11.siIdx (ix2 i (0 : Fin 1)) ⟨0, Nat.zero_lt_one⟩ = ix3 i (0 : Fin 1) (0 : Fin 1) := by
      funext a
      match a with
      | ⟨0, _⟩ => rfl
      | ⟨1, _⟩ => rfl
      | ⟨2, _⟩ => rfl
    show min (idx (gather_S2048x64_S2048x1x1_S2048x1_n_1_0_0_1_2_11.siIdx (ix2 i (0 : Fin 1)) ⟨0, Nat.zero_lt_one⟩)).toInt.toNat (64 - 1) + 0 + 0 = b.val
    have := b.isLt
    rw [hs, hb, StableHlo.Predicate.toInt_ofNat_small _ (by omega)]
    omega

variable {r1 : IVec S2048x1 32} (hr1 : ∀ i : Fin 2048, r1 (ix2 i (0 : Fin 1)) = BitVec.ofNat 32 (rt i.val))

include hr1 hrt in
/-- An index that is not negative stays as it is. -/
theorem wrapped_at (i : Fin 2048) : wrapped r1 (ix3 i (0 : Fin 1) (0 : Fin 1)) = BitVec.ofNat 32 (rt i.val) := by
  unfold wrapped
  rw [shapeCast_apply (t := S2048x1x1) _ shapeCasts_S2048x1_S2048x1x1 (ix3 i (0 : Fin 1) (0 : Fin 1)) (ix2 i (0 : Fin 1)) (by
    rw [Shape.rowMajor_val_two, Shape.rowMajor_val_three]
    show i.val * 1 + 0 = (i.val * 1 + 0) * 1 + 0
    omega), select_at, cmpi_at]
  erw [bc0 bcast_S_S2048x1]
  have h1 := hrt i.val
  rw [constantI_at, hr1]
  exact wrap_of_lt _ _ (by rw [toNat_ofNat_of_lt (w := 32) (by omega)]; show rt i.val < 2 ^ 31; omega)

include hr1 hrt in
/-- Each token reads the entry in its own column. -/
theorem takeAlong_at (x : IVec S2048x64 32) (i : Fin 2048) : takeAlong x r1 (ix2 i (0 : Fin 1)) = x (ix2 i ⟨rt i.val, hrt i.val⟩) := by
  unfold takeAlong
  rw [select_at, gather_rowwise x _ i ⟨rt i.val, hrt i.val⟩ (wrapped_at hrt hr1 i)]
  have hm : Host.reduce IntOp.andi (andi (cmpi .sge (wrapped r1) (broadcastInDim S2048x1x1 ![] bcast_S_S2048x1x1 (constantI S_ 32 0#32)))
      (cmpi .sle (wrapped r1) (broadcastInDim S2048x1x1 ![0, 1, 2] bcast_S1x1x1_S2048x1x1_0_1_2 (broadcastInDim S1x1x1 ![2] bcast_S1_S1x1x1_2 (constantI S1 32 63#32)))))
      (constantI S_ 1 1#1) reducesTo_S2048x1x1_S2048x1_d2 h_S_ (ix2 i (0 : Fin 1)) = 1#1 := by
    refine Host.reduce_andi_one _ _ _ _ _ rfl fun k => ?_
    obtain ⟨a, b, c, rfl⟩ : ∃ (a : Fin 2048) (b c : Fin 1), k = ix3 a b c := ⟨k 0, k 1, k 2, by
      funext q
      match q with
      | ⟨0, _⟩ => rfl
      | ⟨1, _⟩ => rfl
      | ⟨2, _⟩ => rfl⟩
    obtain rfl : b = 0 := Subsingleton.elim _ _
    obtain rfl : c = 0 := Subsingleton.elim _ _
    have h1 := hrt a.val
    rw [andi_at, cmpi_at, cmpi_at, wrapped_at hrt hr1]
    erw [bc0 bcast_S_S2048x1x1]
    show IntOp.andi (IntOp.cmpi .sge (BitVec.ofNat 32 (rt a.val)) (BitVec.ofNat 32 0)) (IntOp.cmpi .sle (BitVec.ofNat 32 (rt a.val)) (BitVec.ofNat 32 63)) = 1#1
    rw [cmpi_sge_ofNat (w := 32) (by show _ < 2 ^ 31; omega) (by decide), cmpi_sle_ofNat (w := 32) (by show _ < 2 ^ 31; omega) (by decide), andi_ofBool,
      ofBool_eq_one_iff, Bool.and_eq_true, decide_eq_true_iff, decide_eq_true_iff]
    omega
  rw [hm]
  rfl

end Cert.Proof

end
-- ==== Proof.Slots.lean ====
/-
  Where the kernel's host code puts each token's row and where it looks for the row's product: the words at each token, and the
  writes and reads that they direct.
-/
module

public import proofs.«01_k».proof.Proof.Ranks
public import Idealize.ShloMosaic.Lib.Routing.OpsSearch

@[expose] public section

set_option maxRecDepth 16384

noncomputable section

namespace Cert.Proof

open Cert.KernelIdeal Cert.KernelIdeal.Gen
open Idealize.ShloMosaic Idealize.ShloMosaic.ValueIdx Idealize.ShloMosaic.WordCmp Idealize.ShloMosaic.Routing

variable {F : FTy → Type} [FloatOps F]

/-! ## The host code as functions of the routes -/

/-- A scalar that every entry of a vector holds. -/
abbrev spread (n : BitVec 32) : IVec S_ 32 := constantI S_ 32 n

/-- The routes as a vector. -/
def routes (a : IVec S2048x1 32) : IVec S2048 32 := shapeCast S2048 a shapeCasts_S2048x1_S2048

/-- The ranks. -/
def ranks (r : IVec S2048 32) : IVec S2048 32 :=
  subi (shapeCast S2048 (takeAlong (runningSum (oneHot r)) (broadcastInDim S2048x1 ![0] bcast_S2048_S2048x1_0 r)) shapeCasts_S2048x1_S2048) (fill 1#32)

/-- Whether each token is kept. -/
def kept (r : IVec S2048 32) : IVec S2048 1 := cmpi .slt (ranks r) (fill 25#32)

/-- The device's number. -/
def deviceWord (c : Dev nD) : IVec S_ 32 := Host.remui (Host.divui (constantI S_ 32 (Dev.word c)) (constantI S_ 32 1#32)) (constantI S_ 32 8#32)

/-- Each token's slot on a device, past the last one for a token that the device does not keep. -/
def slots (c : Dev nD) (r : IVec S2048 32) : IVec S2048 32 :=
  select (andi (cmpi .eq (pyDiv bcast_S_S2048 r (spread 8#32)) (broadcastInDim S2048 ![] bcast_S_S2048 (deviceWord c))) (kept r))
    (addi (muli (pyRem bcast_S_S2048 r (spread 8#32)) (fill 32#32)) (ranks r)) (fill 256#32)

/-- Each token's row among all devices' slots. -/
def sources (r : IVec S2048 32) : IVec S2048 32 :=
  minsi (fill 2047#32) (maxsi (fill 0#32)
    (addi (addi (muli (pyDiv bcast_S_S2048 r (spread 8#32)) (fill 256#32)) (muli (pyRem bcast_S_S2048 r (spread 8#32)) (fill 32#32))) (ranks r)))

/-- The kept tokens' rows out of the gathered buffer, zero for the others. -/
def collect (r : IVec S2048 32) (y : FVec F S2048x1024 .bf16) : FVec F S2048x1024 .f32 :=
  extf .f32 (select (broadcastInDim S2048x1024 ![0, 1] bcast_S2048x1_S2048x1024_0_1 (broadcastInDim S2048x1 ![0] bcast_S2048_S2048x1_0 (kept r)))
    (Host.gather gather_S2048x1024_S2048x1_S2048x1024_1_0_n_n_0_1_11024 y (rowIndex 2048#32 (sources r)))
    (broadcastInDim S2048x1024 ![] bcast_S_S2048x1024 (constant S_ .bf16 0x0000#16))) bitsLt_bf16_f32

/-! ## The words at each token -/

section Words
variable {r : IVec S2048 32} {rt : ℕ → ℕ} (hr : ∀ i : Fin 2048, r (ix1 i) = BitVec.ofNat 32 (rt i.val)) (hrt : ∀ i, rt i < 64)

/-- A token's slot on device `c`. -/
def slotOf (rt : ℕ → ℕ) (c i : ℕ) : ℕ := if rt i / 8 = c ∧ earlier rt i < 25 then rt i % 8 * 32 + earlier rt i else 256

/-- A token's row among all devices' slots. -/
def sourceOf (rt : ℕ → ℕ) (i : ℕ) : ℕ := min (rt i / 8 * 256 + rt i % 8 * 32 + earlier rt i) 2047

include hr hrt in
/-- A token's rank is the number of earlier tokens of its expert. -/
theorem ranks_at (i : Fin 2048) : ranks r (ix1 i) = BitVec.ofNat 32 (earlier rt i.val) := by
  unfold ranks
  rw [subi_ap, fill_at]
  erw [cast21 (a := 2048) (b := 1) _ shapeCasts_S2048x1_S2048 i 0 i (by show i.val = i.val * 1 + 0; omega)]
  rw [takeAlong_at hrt (fun j => by erw [bcCol bcast_S2048_S2048x1_0 r j]; exact hr j), runningSum_at hr hrt]
  show BitVec.ofNat 32 (Nat.count (fun j => rt j = rt i.val) (i.val + 1)) - BitVec.ofNat 32 1 = _
  rw [count_self, ofNat32_sub (by omega), Nat.add_sub_cancel]

include hr hrt in
/-- A token is kept if fewer than 25 earlier ones chose its expert. -/
theorem kept_at (i : Fin 2048) : kept r (ix1 i) = BitVec.ofBool (decide (earlier rt i.val < 25)) := by
  unfold kept
  have h1 := earlier_le rt i.val
  have h2 := i.isLt
  rw [cmpi_at, ranks_at hr hrt, fill_at]
  exact cmpi_slt_ofNat (w := 32) (by show _ < 2 ^ 31; omega) (by decide)

/-- The device's number as a word. -/
theorem deviceWord_at (c : Dev nD) : deviceWord c ix0 = BitVec.ofNat 32 c.val := by
  revert c
  decide

include hr hrt in
/-- The token's expert is on device `rt i / 8`. -/
theorem device_at (i : Fin 2048) : pyDiv bcast_S_S2048 r (spread 8#32) (ix1 i) = BitVec.ofNat 32 (rt i.val / 8) :=
  pyDiv_ap bcast_S_S2048 r _ _ (hr i) rfl (by have := hrt i.val; omega) (by decide) (by decide)

include hr hrt in
/-- It is expert `rt i % 8` there. -/
theorem place_at (i : Fin 2048) : pyRem bcast_S_S2048 r (spread 8#32) (ix1 i) = BitVec.ofNat 32 (rt i.val % 8) :=
  pyRem_ap bcast_S_S2048 r _ _ (hr i) rfl (by have := hrt i.val; omega) (by decide) (by decide)

include hr hrt in
/-- The slot's word. -/
theorem slots_at (c : Dev nD) (i : Fin 2048) : slots c r (ix1 i) = BitVec.ofNat 32 (slotOf rt c.val i.val) := by
  have h0 := hrt i.val
  have h1 : c.val < 8 := c.isLt
  unfold slots
  rw [select_at, andi_at, cmpi_at, device_at hr hrt, kept_at hr hrt, fill_at, addi_ap, muli_ap, place_at hr hrt, fill_at, ranks_at hr hrt]
  erw [bc0 bcast_S_S2048]
  rw [deviceWord_at, cmpi_eq_ofNat (w := 32) (by omega) (by omega), andi_ofBool, ← Bool.decide_and, select_decide]
  unfold slotOf
  split
  · show BitVec.ofNat 32 (rt i.val % 8) * BitVec.ofNat 32 32 + _ = _
    rw [← BitVec.ofNat_mul, ← BitVec.ofNat_add]
  · rfl

include hr hrt in
/-- The source row's word. -/
theorem sources_at (i : Fin 2048) : sources r (ix1 i) = BitVec.ofNat 32 (sourceOf rt i.val) := by
  have h0 := hrt i.val
  have h1 := earlier_le rt i.val
  have h2 := i.isLt
  unfold sources sourceOf
  show IntOp.minsi (fill 2047#32 (ix1 i)) (IntOp.maxsi (fill 0#32 (ix1 i)) (addi _ _ (ix1 i))) = _
  rw [fill_at, fill_at, addi_ap, addi_ap, muli_ap, muli_ap, device_at hr hrt, place_at hr hrt, fill_at, fill_at, ranks_at hr hrt]
  show IntOp.minsi (BitVec.ofNat 32 2047) (IntOp.maxsi (BitVec.ofNat 32 0)
    (BitVec.ofNat 32 (rt i.val / 8) * BitVec.ofNat 32 256 + BitVec.ofNat 32 (rt i.val % 8) * BitVec.ofNat 32 32 + _)) = _
  rw [← BitVec.ofNat_mul, ← BitVec.ofNat_mul, ← BitVec.ofNat_add, ← BitVec.ofNat_add, clip_word (by omega) (by omega) (by omega), Nat.max_eq_left (Nat.zero_le _)]

end Words

/-! ## The writes and the reads -/

/-- A row index that is small stays as it is. -/
theorem rowIndex_at (n : BitVec 32) (s : IVec S2048 32) (i : Fin 2048) {k : ℕ} (hk : s (ix1 i) = BitVec.ofNat 32 k) (hk' : k < 2 ^ 31) :
    rowIndex n s (ix2 i (0 : Fin 1)) = BitVec.ofNat 32 k := by
  unfold rowIndex
  erw [bcCol bcast_S2048_S2048x1_0 _ i]
  rw [select_at, cmpi_at, fill_at, hk]
  exact wrap_of_lt _ _ (by rw [toNat_ofNat_of_lt (w := 32) (by omega)]; exact hk')

/-- A row that is written lands in the slot that its index names, column by column. -/
theorem lands_row (idx : IVec S2048x1 32) (i : Fin 2048) (y : Fin 1024) (s : Fin 256) (z : Fin 1024) :
    scatter_S256x1024_S2048x1_S2048x1024_1_0_0_1.resultIdx? (ix2 i y) idx = some (ix2 s z)
      ↔ (idx (ix2 i (0 : Fin 1))).toInt = (s.val : ℤ) ∧ y.val = z.val := by
  have hs : scatter_S256x1024_S2048x1_S2048x1024_1_0_0_1.siIdx (ix2 i y) ⟨0, Nat.zero_lt_one⟩ = ix2 i (0 : Fin 1) := by
    funext a
    match a with
    | ⟨0, _⟩ => rfl
    | ⟨1, _⟩ => rfl
  rw [resultIdx?_ix2]
  show (idx (scatter_S256x1024_S2048x1_S2048x1024_1_0_0_1.siIdx (ix2 i y) ⟨0, Nat.zero_lt_one⟩)).toInt + ((0 : ℕ) : ℤ) = _ ∧ (0 : ℤ) + ((y.val : ℕ) : ℤ) = _ ↔ _
  rw [hs]
  omega

/-- The token whose slot it is has its row there. -/
theorem slotRows_at {r : IVec S2048 32} {rt : ℕ → ℕ} (hr : ∀ i : Fin 2048, r (ix1 i) = BitVec.ofNat 32 (rt i.val)) (hrt : ∀ i, rt i < 64)
    (c : Dev nD) (x : FVec F S2048x1024 .bf16) (i : Fin 2048) (hd : rt i.val / 8 = c.val) (he : earlier rt i.val < 25) (s : Fin 256)
    (hs : s.val = rt i.val % 8 * 32 + earlier rt i.val) (y : Fin 1024) :
    slotRows (slots c r) x (ix2 s y) = x (ix2 i y) := by
  have hidx : ∀ j : Fin 2048, rowIndex 256#32 (slots c r) (ix2 j (0 : Fin 1)) = BitVec.ofNat 32 (slotOf rt c.val j.val) := fun j =>
    rowIndex_at _ _ j (slots_at hr hrt c j) (by unfold slotOf; split <;> omega)
  have hint : ∀ j : Fin 2048, (rowIndex 256#32 (slots c r) (ix2 j (0 : Fin 1))).toInt = (slotOf rt c.val j.val : ℤ) := fun j => by
    rw [hidx, StableHlo.Predicate.toInt_ofNat_small _ (by unfold slotOf; split <;> omega)]
  unfold slotRows
  refine scatter_set_hit _ _ _ _ _ _ (fun k hk => ?_) (ix2 i y) ((lands_row _ i y s y).2 ⟨?_, rfl⟩)
  · obtain ⟨j, z, rfl⟩ : ∃ (j : Fin 2048) (z : Fin 1024), k = ix2 j z := ⟨k 0, k 1, by
      funext q
      match q with
      | ⟨0, _⟩ => rfl
      | ⟨1, _⟩ => rfl⟩
    obtain ⟨h1, h2⟩ := (lands_row _ j z s y).1 hk
    rw [hint] at h1
    have hsl := s.isLt
    have h3 : slotOf rt c.val j.val = rt i.val % 8 * 32 + earlier rt i.val := by omega
    unfold slotOf at h3
    split at h3
    · next hc =>
      have : rt j.val = rt i.val := by omega
      have h4 : j = i := Fin.ext (earlier_inj rt this (by omega))
      rw [h4, Fin.ext h2]
    · omega
  · rw [hint]
    unfold slotOf
    rw [if_pos ⟨hd, he⟩]
    omega

/-- The result's row of a kept token is its row of the gathered buffer, another's is zero. -/
theorem collect_at {r : IVec S2048 32} {rt : ℕ → ℕ} (hr : ∀ i : Fin 2048, r (ix1 i) = BitVec.ofNat 32 (rt i.val)) (hrt : ∀ i, rt i < 64)
    (y : FVec F S2048x1024 .bf16) (i : Fin 2048) (f : Fin 1024) (b : Fin 2048) (hb : b.val = sourceOf rt i.val) :
    collect r y (ix2 i f)
      = FloatOps.extf (F := F) .f32 bitsLt_bf16_f32 (if earlier rt i.val < 25 then y (ix2 b f) else FloatOps.ofBits .bf16 0x0000#16) := by
  have hi : rowIndex 2048#32 (sources r) (ix2 i (0 : Fin 1)) = BitVec.ofNat 32 b.val := by
    rw [rowIndex_at _ _ i (sources_at hr hrt i) (by unfold sourceOf; omega), hb]
  unfold collect
  show FloatOps.extf (F := F) .f32 bitsLt_bf16_f32 (select _ _ _ (ix2 i f)) = _
  rw [select_at]
  erw [bcRows bcast_S2048_S2048x1_0 bcast_S2048x1_S2048x1024_0_1 (kept r) i f]
  rw [kept_at hr hrt, select_decide]
  erw [gather_row gather_S2048x1024_S2048x1_S2048x1024_1_0_n_n_0_1_11024 rfl rfl rfl rfl rfl y _ i f b hi (by decide)]
  rfl

end Cert.Proof

end
-- ==== Proof.InRange.lean ====
/-
  What the precondition says: every route is the word of an expert's number.
-/
module

public import proofs.«01_k».proof.Pre_routed_KernelIdeal
public import proofs.«01_k».proof.Proof.Slots
public import Idealize.ShloMosaic.Lib.ReduceAll

@[expose] public section

set_option maxRecDepth 16384

noncomputable section

namespace Cert.Proof

open Cert.KernelIdeal Cert.KernelIdeal.Gen
open Idealize.ShloMosaic Idealize.ShloMosaic.ValueIdx Idealize.ShloMosaic.WordCmp Idealize.ShloMosaic.Routing

/-- The experts' numbers that a column of routes holds; past its end, expert 0. -/
def routeOf (a : IVec S2048x1 32) (i : ℕ) : ℕ := if h : i < 2048 then (a (ix2 (⟨i, h⟩ : Fin 2048) (0 : Fin 1))).toNat else 0

/-- A route is the word of its expert's number. -/
theorem routes_at (a : IVec S2048x1 32) (i : Fin 2048) : routes a (ix1 i) = BitVec.ofNat 32 (routeOf a i.val) := by
  unfold routes routeOf
  rw [dif_pos i.isLt]
  erw [cast21 (a := 2048) (b := 1) a shapeCasts_S2048x1_S2048 i 0 i (by show i.val = i.val * 1 + 0; omega)]
  rw [BitVec.ofNat_toNat, BitVec.setWidth_eq]

/-- Where the precondition holds, every route is below 64. -/
theorem routeOf_lt [Cert.Pre_routed_KernelIdeal.Facts] {F : FTy → Type} [FloatOps F] (x : FVec F Cert.Pre_routed_KernelIdeal.S2048x1024 .bf16)
    (y : FVec F Cert.Pre_routed_KernelIdeal.S1024x64 .bf16) (a : IVec S2048x1 32) (w : FVec F Cert.Pre_routed_KernelIdeal.S8x1024x1024 .bf16)
    (h : Cert.Pre_routed_KernelIdeal.fn (F := F) x y a w = fun _ => 1#1) (i : ℕ) : routeOf a i < 64 := by
  unfold routeOf
  split
  · rename_i hi
    have hall : andi (cmpi .sge a (broadcastInDim S2048x1 ![] Cert.Pre_routed_KernelIdeal.Facts.bcast_S_S2048x1 (constantI S_ 32 0#32)))
        (cmpi .slt a (broadcastInDim S2048x1 ![] Cert.Pre_routed_KernelIdeal.Facts.bcast_S_S2048x1 (constantI S_ 32 64#32)))
        (ix2 (⟨i, hi⟩ : Fin 2048) (0 : Fin 1)) = 1#1 := by
      haveI : Subsingleton Cert.Pre_routed_KernelIdeal.S_.Idx := ⟨fun p q => funext fun k => k.elim0⟩
      exact Host.reduce_andi_all _ _ _ _ ix0 (congrFun h ix0) _
    rw [andi_at, cmpi_at, cmpi_at] at hall
    erw [bc0, bc0] at hall
    have hk := andi_sge_zero_slt_ofNat (w := 32) (k := 64) (by decide) (a (ix2 (⟨i, hi⟩ : Fin 2048) (0 : Fin 1)))
    exact of_decide_eq_true ((ofBool_eq_one_iff _).1 (hk.symm.trans hall))
  · omega

end Cert.Proof

end
-- ==== Proof.HostChain.lean ====
/-
  The kernel's host code put together: the buffer of slots that the region takes, and the result, as functions of the arguments
  and of what the region leaves.
-/
module

public import proofs.«01_k».proof.Proof.Slots
public import proofs.«01_k».proof.Proof.Region

@[expose] public section

set_option maxRecDepth 16384

noncomputable section

namespace Cert.Proof

open Cert.KernelIdeal Cert.KernelIdeal.Gen
open Idealize.ShloMosaic Idealize.ShloMosaic.TcCoe
open Idealize.ShloMosaic.Routing (pyDiv pyRem)

variable {F : FTy → Type} [FloatOps F]
variable (m : (ℓ : Loc nD τ sig) → Buf (Elt F) ℓ) (c : Dev nD)

/-- The routes that device `c` is given. -/
abbrev routesOf : IVec S2048 32 := routes (m ((c : Thread nD τ).loc main_arg2))

/-! ## Before the region -/

/-- The device's number. -/
theorem v4_at1 : V1 m c main_v4 = deviceWord c :=
  read_v4 (V0 m c) c

/-- The routes. -/
theorem v5_at1 : V1 m c main_v5 = routesOf m c :=
  read_v5 (V0 m c) c

/-- The one-hot table. -/
theorem v12_at1 : V1 m c main_v12 = oneHot (routesOf m c) :=
  read_v12 (V0 m c) c

/-- Its running sums. -/
theorem v13_at2 : V2 m c main_v13 = runningSum (oneHot (routesOf m c)) :=
  (read_v13 (V1 m c)).trans (congrArg runningSum (v12_at1 m c))

/-- They stay. -/
theorem v13_at3 : V3 m c main_v13 = runningSum (oneHot (routesOf m c)) :=
  (V3_of m c main_v13 (by decide)).trans <| v13_at2 m c

/-- The routes stay. -/
theorem v5_at2 : V2 m c main_v5 = routesOf m c :=
  (V2_of m c main_v5 (by decide)).trans <| v5_at1 m c

/-- The routes as a column. -/
theorem v14_at3 : V3 m c main_v14 = (broadcastInDim S2048x1 ![0] bcast_S2048_S2048x1_0 (routesOf m c) : IVec S2048x1 32) :=
  (read_v14 (V2 m c)).trans (by rw [v5_at2])

/-- The running sum in each token's column. -/
theorem v15_at4 : V4 m c main_v15 = takeAlong (runningSum (oneHot (routesOf m c))) (broadcastInDim S2048x1 ![0] bcast_S2048_S2048x1_0 (routesOf m c) : IVec S2048x1 32) :=
  (read_v15 (V3 m c)).trans (congrArg₂ takeAlong (v13_at3 m c) (v14_at3 m c))

/-- The ranks. -/
theorem v18_at5 : V5 m c main_v18 = ranks (routesOf m c) :=
  (read_v18 (V4 m c)).trans (congrArg (fun x : IVec S2048x1 32 => subi (shapeCast S2048 x shapeCasts_S2048x1_S2048) (fill 1#32)) (v15_at4 m c))

/-- Which tokens are kept. -/
theorem v20_at5 : V5 m c main_v20 = kept (routesOf m c) :=
  (read_v20 (V4 m c)).trans (congrArg (fun x : IVec S2048x1 32 => cmpi .slt (subi (shapeCast S2048 x shapeCasts_S2048x1_S2048) (fill 1#32)) (fill 25#32)) (v15_at4 m c))

/-- The routes stay. -/
theorem v5_at5 : V5 m c main_v5 = routesOf m c :=
  (V5_of m c main_v5 (by decide)).trans <| (V4_of m c main_v5 (by decide)).trans <| (V3_of m c main_v5 (by decide)).trans <| v5_at2 m c

/-- The number of experts on a device. -/
theorem c_3_at5 : V5 m c main_c_3 = spread 8#32 :=
  read_c_3 (V4 m c)

/-- The device of each token's expert. -/
theorem v21_at6 : V6 m c main_v21 = (pyDiv bcast_S_S2048 (routesOf m c) (spread 8#32) : IVec S2048 32) :=
  (read_v21 (V5 m c)).trans (congrArg₂ (pyDiv bcast_S_S2048) (v5_at5 m c) (c_3_at5 m c))

/-- The device's number stays. -/
theorem v4_at6 : V6 m c main_v4 = deviceWord c :=
  (V6_of m c main_v4 (by decide)).trans <| (V5_of m c main_v4 (by decide)).trans <| (V4_of m c main_v4 (by decide)).trans <| (V3_of m c main_v4 (by decide)).trans <| (V2_of m c main_v4 (by decide)).trans <| v4_at1 m c

/-- Which tokens are kept stays. -/
theorem v20_at6 : V6 m c main_v20 = kept (routesOf m c) :=
  (V6_of m c main_v20 (by decide)).trans <| v20_at5 m c

/-- Which tokens are kept on this device. -/
theorem v24_at7 : V7 m c main_v24 = (andi (cmpi .eq (pyDiv bcast_S_S2048 (routesOf m c) (spread 8#32) : IVec S2048 32) (broadcastInDim S2048 ![] bcast_S_S2048 (deviceWord c))) (kept (routesOf m c)) : IVec S2048 1) :=
  (read_v24 (V6 m c)).trans (congrArg₂ andi (congrArg₂ (cmpi .eq) (v21_at6 m c) (congrArg (broadcastInDim S2048 ![] bcast_S_S2048) (v4_at6 m c))) (v20_at6 m c))

/-- The number of experts on a device. -/
theorem c_4_at7 : V7 m c main_c_4 = spread 8#32 :=
  read_c_4 (V6 m c)

/-- The routes stay. -/
theorem v5_at7 : V7 m c main_v5 = routesOf m c :=
  (V7_of m c main_v5 (by decide)).trans <| (V6_of m c main_v5 (by decide)).trans <| v5_at5 m c

/-- The expert's place on its device. -/
theorem v25_at8 : V8 m c main_v25 = (pyRem bcast_S_S2048 (routesOf m c) (spread 8#32) : IVec S2048 32) :=
  (read_v25 (V7 m c)).trans (congrArg₂ (pyRem bcast_S_S2048) (v5_at7 m c) (c_4_at7 m c))

/-- The ranks stay. -/
theorem v18_at8 : V8 m c main_v18 = ranks (routesOf m c) :=
  (V8_of m c main_v18 (by decide)).trans <| (V7_of m c main_v18 (by decide)).trans <| (V6_of m c main_v18 (by decide)).trans <| v18_at5 m c

/-- The slot of a kept token. -/
theorem v28_at9 : V9 m c main_v28 = (addi (muli (pyRem bcast_S_S2048 (routesOf m c) (spread 8#32) : IVec S2048 32) (fill 32#32)) (ranks (routesOf m c)) : IVec S2048 32) :=
  (read_v28 (V8 m c)).trans (congrArg₂ (fun x y : IVec S2048 32 => addi (muli x (fill 32#32)) y) (v25_at8 m c) (v18_at8 m c))

/-- The number of slots. -/
theorem c_6_at9 : V9 m c main_c_6 = spread 256#32 :=
  read_c_6 (V8 m c)

/-- Which tokens are kept on this device stays. -/
theorem v24_at9 : V9 m c main_v24 = (andi (cmpi .eq (pyDiv bcast_S_S2048 (routesOf m c) (spread 8#32) : IVec S2048 32) (broadcastInDim S2048 ![] bcast_S_S2048 (deviceWord c))) (kept (routesOf m c)) : IVec S2048 1) :=
  (V9_of m c main_v24 (by decide)).trans <| (V8_of m c main_v24 (by decide)).trans <| v24_at7 m c

/-- Each token's slot. -/
theorem v29_at10 : V10 m c main_v29 = slots c (routesOf m c) :=
  (read_v29 (V9 m c)).trans (by rw [v24_at9, v28_at9, c_6_at9]; rfl)

/-- The tokens stay. -/
theorem arg0_at10 : V10 m c main_arg0 = m ((c : Thread nD τ).loc main_arg0) :=
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)

/-- The matrices stay. -/
theorem arg3_at11 : V11 m c main_arg3 = m ((c : Thread nD τ).loc main_arg3) :=
  (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| V1_of m c main_arg3 (by decide)

/-- The rows in their slots. -/
theorem v37_at11 : V11 m c main_v37 = slotRows (slots c (routesOf m c)) (m ((c : Thread nD τ).loc main_arg0)) :=
  (read_v37 (V10 m c)).trans (congrArg₂ slotRows (v29_at10 m c) (arg0_at10 m c))

/-! ## After the region -/

/-- The routes stay. -/
theorem v5_at13 : V13 m (outs m) c main_v5 = routesOf m c :=
  (V13_of m (outs m) c main_v5 (by decide)).trans <| (V12_of m (outs m) c main_v5 (by decide)).trans <| (V11_of m c main_v5 (by decide)).trans <| (V10_of m c main_v5 (by decide)).trans <| (V9_of m c main_v5 (by decide)).trans <| (V8_of m c main_v5 (by decide)).trans <| v5_at7 m c

/-- The number of experts on a device. -/
theorem c_9_at13 : V13 m (outs m) c main_c_9 = spread 8#32 :=
  read_c_9 (V12 m (outs m) c)

/-- The device of each token's expert. -/
theorem v39_at14 : V14 m (outs m) c main_v39 = (pyDiv bcast_S_S2048 (routesOf m c) (spread 8#32) : IVec S2048 32) :=
  (read_v39 (V13 m (outs m) c)).trans (congrArg₂ (pyDiv bcast_S_S2048) (v5_at13 m c) (c_9_at13 m c))

/-- The first row of its slab. -/
theorem v41_at15 : V15 m (outs m) c main_v41 = (muli (pyDiv bcast_S_S2048 (routesOf m c) (spread 8#32) : IVec S2048 32) (fill 256#32) : IVec S2048 32) :=
  (read_v41 (V14 m (outs m) c)).trans (congrArg (fun x : IVec S2048 32 => muli x (fill 256#32)) (v39_at14 m c))

/-- The number of experts on a device. -/
theorem c_11_at15 : V15 m (outs m) c main_c_11 = spread 8#32 :=
  read_c_11 (V14 m (outs m) c)

/-- The routes stay. -/
theorem v5_at15 : V15 m (outs m) c main_v5 = routesOf m c :=
  (V15_of m (outs m) c main_v5 (by decide)).trans <| (V14_of m (outs m) c main_v5 (by decide)).trans <| v5_at13 m c

/-- The expert's place on its device. -/
theorem v42_at16 : V16 m (outs m) c main_v42 = (pyRem bcast_S_S2048 (routesOf m c) (spread 8#32) : IVec S2048 32) :=
  (read_v42 (V15 m (outs m) c)).trans (congrArg₂ (pyRem bcast_S_S2048) (v5_at15 m c) (c_11_at15 m c))

/-- The first rows stay. -/
theorem v41_at16 : V16 m (outs m) c main_v41 = (muli (pyDiv bcast_S_S2048 (routesOf m c) (spread 8#32) : IVec S2048 32) (fill 256#32) : IVec S2048 32) :=
  (V16_of m (outs m) c main_v41 (by decide)).trans <| v41_at15 m c

/-- The ranks stay. -/
theorem v18_at16 : V16 m (outs m) c main_v18 = ranks (routesOf m c) :=
  (V16_of m (outs m) c main_v18 (by decide)).trans <| (V15_of m (outs m) c main_v18 (by decide)).trans <| (V14_of m (outs m) c main_v18 (by decide)).trans <| (V13_of m (outs m) c main_v18 (by decide)).trans <| (V12_of m (outs m) c main_v18 (by decide)).trans <| (V11_of m c main_v18 (by decide)).trans <| (V10_of m c main_v18 (by decide)).trans <| (V9_of m c main_v18 (by decide)).trans <| v18_at8 m c

/-- Each token's row among all slots. -/
theorem v46_at17 : V17 m (outs m) c main_v46 = (addi (addi (muli (pyDiv bcast_S_S2048 (routesOf m c) (spread 8#32) : IVec S2048 32) (fill 256#32)) (muli (pyRem bcast_S_S2048 (routesOf m c) (spread 8#32) : IVec S2048 32) (fill 32#32))) (ranks (routesOf m c)) : IVec S2048 32) :=
  (read_v46 (V16 m (outs m) c)).trans (by rw [v41_at16, v42_at16, v18_at16])

/-- The least row. -/
theorem c_13_at17 : V17 m (outs m) c main_c_13 = spread 0#32 :=
  read_c_13 (V16 m (outs m) c)

/-- The greatest row. -/
theorem c_14_at17 : V17 m (outs m) c main_c_14 = spread 2047#32 :=
  read_c_14 (V16 m (outs m) c)

/-- The row, clipped. -/
theorem v47_at18 : V18 m (outs m) c main_v47 = sources (routesOf m c) :=
  (read_v47 (V17 m (outs m) c)).trans (by rw [v46_at17, c_13_at17, c_14_at17]; rfl)

/-- Which tokens are kept stays. -/
theorem v20_at18 : V18 m (outs m) c main_v20 = kept (routesOf m c) :=
  (V18_of m (outs m) c main_v20 (by decide)).trans <| (V17_of m (outs m) c main_v20 (by decide)).trans <| (V16_of m (outs m) c main_v20 (by decide)).trans <| (V15_of m (outs m) c main_v20 (by decide)).trans <| (V14_of m (outs m) c main_v20 (by decide)).trans <| (V13_of m (outs m) c main_v20 (by decide)).trans <| (V12_of m (outs m) c main_v20 (by decide)).trans <| (V11_of m c main_v20 (by decide)).trans <| (V10_of m c main_v20 (by decide)).trans <| (V9_of m c main_v20 (by decide)).trans <| (V8_of m c main_v20 (by decide)).trans <| (V7_of m c main_v20 (by decide)).trans <| v20_at6 m c

/-- The gathered buffer stays. -/
theorem v38_at18 : V18 m (outs m) c main_v38 = (yAll m : FVec F S2048x1024 .bf16) :=
  (V18_of m (outs m) c main_v38 (by decide)).trans <| (V17_of m (outs m) c main_v38 (by decide)).trans <| (V16_of m (outs m) c main_v38 (by decide)).trans <| (V15_of m (outs m) c main_v38 (by decide)).trans <| (V14_of m (outs m) c main_v38 (by decide)).trans <| (V13_of m (outs m) c main_v38 (by decide)).trans <| V12_v38 m c

/-- Which tokens are kept, as a column. -/
theorem v48_at19 : V19 m (outs m) c main_v48 = (broadcastInDim S2048x1 ![0] bcast_S2048_S2048x1_0 (kept (routesOf m c)) : IVec S2048x1 1) :=
  (read_v48 (V18 m (outs m) c)).trans (by rw [v20_at18])

/-- The rows gathered back. -/
theorem v55_at19 : V19 m (outs m) c main_v55 = (Host.gather gather_S2048x1024_S2048x1_S2048x1024_1_0_n_n_0_1_11024 (yAll m : FVec F S2048x1024 .bf16) (rowIndex 2048#32 (sources (routesOf m c))) : FVec F S2048x1024 .bf16) :=
  (read_v55 (V18 m (outs m) c)).trans (by rw [v38_at18, v47_at18])

/-- The zero of a dropped token. -/
theorem cst_17_at19 : V19 m (outs m) c main_cst_17 = (constant S_ .bf16 0x0000#16 : FVec F S_ .bf16) :=
  read_cst_17 (V18 m (outs m) c)

/-- The rows of the kept tokens. -/
theorem v56_at20 : V20 m (outs m) c main_v56 = (select (broadcastInDim S2048x1024 ![0, 1] bcast_S2048x1_S2048x1024_0_1 (broadcastInDim S2048x1 ![0] bcast_S2048_S2048x1_0 (kept (routesOf m c)) : IVec S2048x1 1)) (Host.gather gather_S2048x1024_S2048x1_S2048x1024_1_0_n_n_0_1_11024 (yAll m : FVec F S2048x1024 .bf16) (rowIndex 2048#32 (sources (routesOf m c))) : FVec F S2048x1024 .bf16) (broadcastInDim S2048x1024 ![] bcast_S_S2048x1024 (constant S_ .bf16 0x0000#16)) : FVec F S2048x1024 .bf16) :=
  (read_v56 (V19 m (outs m) c)).trans (by rw [v48_at19, v55_at19, cst_17_at19])

/-- The result. -/
theorem v57_at21 : V21 m (outs m) c main_v57 = collect (routesOf m c) (yAll m : FVec F S2048x1024 .bf16) :=
  (read_v57 (V20 m (outs m) c)).trans (by rw [v56_at20]; rfl)

end Cert.Proof

end
-- ==== Proof.Copies.lean ====
/-
  What the region's windows copy: each whole array, entry by entry.
-/
module

public import proofs.«01_k».proof.Proof.HostChain
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

variable {F : FTy → Type} [FloatOps F]
/-- The token window's block is the one at the origin. -/
theorem x_index : ∀ t : Fin grid0.N, win0_0.index t = ![0, 0] := by decide +kernel

/-- The weights' block is the one at the origin. -/
theorem w_index : ∀ t : Fin grid0.N, win0_1.index t = ![0, 0, 0] := by decide +kernel

/-- The token window's block is placed entry by entry. -/
theorem x_emb (h : win0_0.index t0_0 = ![0, 0]) (i : S256x1024.Idx) : (win0_0.blk t0_0).view.emb i = i := by
  blk_ext [h]

/-- The weights' block is placed entry by entry. -/
theorem w_emb (h : win0_1.index t0_0 = ![0, 0, 0]) (i : S8x1024x1024.Idx) : (win0_1.blk t0_0).view.emb i = i := by
  blk_ext [h]

/-- A read of the token window is a read of the buffer. -/
theorem x_read (f : FVec F S256x1024 .bf16) (i : S256x1024.Idx) :
    ((win0_0.blk t0_0).view.read (Elt F) f : FVec F S256x1024 .bf16) i = f i :=
  congrArg f (x_emb (x_index t0_0) i)

/-- A read of the weights' window is a read of the weights. -/
theorem w_read (f : FVec F S8x1024x1024 .bf16) (i : S8x1024x1024.Idx) :
    ((win0_1.blk t0_0).view.read (Elt F) f : FVec F S8x1024x1024 .bf16) i = f i :=
  congrArg f (w_emb (w_index t0_0) i)

variable (m : (ℓ : Loc nD τ sig) → Buf (Elt F) ℓ) (c : Dev nD)

/-- The region's copy of the token buffer is the buffer. -/
theorem xAt_eq : (xAt m c : FVec F S256x1024 .bf16) = V11 m c main_v37 := by
  unfold xAt
  generalize V11 m c = V
  funext i
  exact x_read (V main_v37) i

/-- The region's copy of the weights is the weights. -/
theorem wAt_eq : (wAt m c : FVec F S8x1024x1024 .bf16) = V11 m c main_arg3 := by
  unfold wAt
  generalize V11 m c = V
  funext i
  exact w_read (V main_arg3) i

end Cert.Proof

end
-- ==== Proof.Products.lean ====
/-
  The products over the reals: a slot's row of an expert's product is the row of the token in it times the expert's matrix.
-/
module

public import proofs.«01_k».proof.Proof.HostChain
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- A product's entry is the sum over the shared axis. -/
theorem pay_at (x : Vec Ideal S32x1024 .bf16) (w : Vec Ideal S1x1024x1024 .bf16) (r : Fin 32) (f : Fin 1024) :
    k0_pay1 (F := Ideal) x w (ix2 r f) = ∑ k : Fin 1024, x (ix2 r k) * w (ix3 (0 : Fin 1) k f) := by
  pointwise [k0_pay1]

/-- A row of expert `e`'s product on a device. -/
theorem product_at (X : FVec Ideal S256x1024 .bf16) (W : FVec Ideal S8x1024x1024 .bf16) (e : Fin 8) (r : Fin 32) (f : Fin 1024) (s : Fin 256) (hs : s.val = 32 * e.val + r.val) :
    product (X : XBuf Ideal) (W : WBuf Ideal) e (ix2 r f) = ∑ k : Fin 1024, X (ix2 s k) * W (ix3 e k f) := by
  unfold product
  rw [pay_at]
  refine Finset.sum_congr rfl fun k _ => ?_
  have h1 : xM.view.readAt (Elt Ideal) (xR e).toLoadRect X (ix2 r k) = X (ix2 s k) := by
    refine congrArg X (funext fun a => Fin.ext ?_)
    match a with
    | ⟨0, _⟩ =>
      show 32 * e.val + 1 * r.val = s.val
      omega
    | ⟨1, _⟩ =>
      show 0 + 1 * k.val = k.val
      omega
  have h2 : wM.view.readAt (Elt Ideal) (wR e).toLoadRect W (ix3 (0 : Fin 1) k f) = W (ix3 e k f) := by
    refine congrArg W (funext fun a => Fin.ext ?_)
    match a with
    | ⟨0, _⟩ =>
      show e.val + 1 * 0 = e.val
      omega
    | ⟨1, _⟩ =>
      show 0 + 1 * k.val = k.val
      omega
    | ⟨2, _⟩ =>
      show 0 + 1 * f.val = f.val
      omega
  rw [h1, h2]

end Cert.Proof

end
-- ==== Proof.KernelValue.lean ====
/-
  The kernel's result over the reals: a kept token's row is its own row times the matrix of its expert, a dropped token's row is zero.
-/
module

public import proofs.«01_k».proof.Proof.Copies
public import proofs.«01_k».proof.Proof.Products
public import Idealize.ShloMosaic.Lib.IdealHost
public import Idealize.ShloMosaic.Lib.Layout

@[expose] public section

set_option maxRecDepth 16384

noncomputable section

namespace Cert.Proof

open Cert.KernelIdeal Cert.KernelIdeal.Gen
open Idealize.ShloMosaic Idealize.ShloMosaic.TcCoe

/-- All experts' matrices. -/
abbrev S64x1024x1024 : Shape := ⟨3, ![64, 1024, 1024]⟩

/-- The routed products with a capacity of 25 tokens to an expert: a token that follows fewer than 25 others of its expert
    has its row times its expert's matrix, another token has zero. -/
def routedProducts (rt : ℕ → ℕ) (hrt : ∀ i, rt i < 64) (A : FVec Ideal S2048x1024 .bf16) (B : FVec Ideal S64x1024x1024 .bf16) :
    FVec Ideal S2048x1024 .f32 := fun j =>
  if earlier rt (j 0).val < 25 then
    ∑ k : Fin 1024, A (ix2 (⟨(j 0).val, (j 0).isLt⟩ : Fin 2048) k) * B (ix3 (⟨rt (j 0).val, hrt _⟩ : Fin 64) k (⟨(j 1).val, (j 1).isLt⟩ : Fin 1024))
  else (0 : ℝ)

/-- Device `c` holds the experts `8 c` to `8 c + 7`. -/
theorem block_at (B : FVec Ideal S64x1024x1024 .bf16) (c : Fin 8) (e : Fin 8) (k f : Fin 1024) (g : Fin 64) (hg : g.val = c.val * 8 + e.val) :
    Layout.block ⟨3, ![8, 1024, 1024]⟩ ⟨3, ![64, 1024, 1024]⟩ 0 8 c B (by decide) (ix3 e k f) = B (ix3 g k f) := by
  refine congrArg B (funext fun a => Fin.ext ?_)
  match a with
  | ⟨0, _⟩ => exact hg.symm
  | ⟨1, _⟩ => rfl
  | ⟨2, _⟩ => rfl

variable (m : (ℓ : Loc nD τ sig) → Buf (Elt Ideal) ℓ) {rt : ℕ → ℕ} (hrt : ∀ i, rt i < 64)
variable (hr : ∀ (c : Dev nD) (i : Fin 2048), routesOf m c (ix1 i) = BitVec.ofNat 32 (rt i.val))
variable {A : FVec Ideal S2048x1024 .bf16} (hA : ∀ c : Dev nD, m ((c : Thread nD τ).loc main_arg0) = A)
variable {B : FVec Ideal S64x1024x1024 .bf16}
variable (hB : ∀ c : Dev nD, m ((c : Thread nD τ).loc main_arg3) = Layout.block ⟨3, ![8, 1024, 1024]⟩ ⟨3, ![64, 1024, 1024]⟩ 0 8 c B)

include hrt hr hA in
/-- A kept token's slot holds its row. -/
theorem slot_row (c : Dev nD) (i : Fin 2048) (hd : rt i.val / 8 = c.val) (he : earlier rt i.val < 25) (s : Fin 256)
    (hs : s.val = rt i.val % 8 * 32 + earlier rt i.val) (k : Fin 1024) :
    (xAt m c : FVec Ideal S256x1024 .bf16) (ix2 s k) = A (ix2 i k) := by
  rw [xAt_eq, v37_at11, hA]
  exact slotRows_at (fun j => hr c j) hrt c A i hd he s hs k

include hB in
/-- An expert's matrix on the device that holds it. -/
theorem expert_entry (c : Dev nD) (e : Fin 8) (k f : Fin 1024) (g : Fin 64) (hg : g.val = c.val * 8 + e.val) :
    (wAt m c : FVec Ideal S8x1024x1024 .bf16) (ix3 e k f) = B (ix3 g k f) := by
  rw [wAt_eq, arg3_at11, hB]
  exact block_at B c e k f g hg

include hrt hr hA hB in
/-- A kept token's row among all devices' slots is its row times its expert's matrix. -/
theorem gathered_row (i : Fin 2048) (he : earlier rt i.val < 25) (b : Fin 2048) (hb : b.val = sourceOf rt i.val) (f : Fin 1024) :
    (yAll m : FVec Ideal S2048x1024 .bf16) (ix2 b f) = ∑ k : Fin 1024, A (ix2 i k) * B (ix3 (⟨rt i.val, hrt _⟩ : Fin 64) k f) := by
  have h64 := hrt i.val
  obtain ⟨c, hc⟩ : ∃ c : Dev nD, rt i.val / 8 = c.val := ⟨⟨rt i.val / 8, by show _ < 8; omega⟩, rfl⟩
  have hb' : b.val = 256 * c.val + 32 * (rt i.val % 8) + earlier rt i.val := by
    unfold sourceOf at hb; omega
  unfold yAll
  rw [gathered_at (xAt m) (wAt m) c ⟨rt i.val % 8, by omega⟩ (ix2 b f) ⟨earlier rt i.val, by omega⟩ hb']
  refine (product_at (xAt m c) (wAt m c) _ _ f ⟨rt i.val % 8 * 32 + earlier rt i.val, by omega⟩ (by show rt i.val % 8 * 32 + earlier rt i.val = 32 * (rt i.val % 8) + earlier rt i.val; omega)).trans ?_
  refine Finset.sum_congr rfl fun k _ => ?_
  rw [slot_row m hrt hr hA c i hc he _ rfl k, expert_entry m hB c _ k f ⟨rt i.val, hrt _⟩ (by show rt i.val = c.val * 8 + rt i.val % 8; omega)]

/-- The row collected for a token: the row at its source if it is kept, else zero. -/
theorem collected_entry {r : IVec S2048 32} {rt : ℕ → ℕ} (hr : ∀ i : Fin 2048, r (ix1 i) = BitVec.ofNat 32 (rt i.val)) (hrt : ∀ i, rt i < 64)
    (y : FVec Ideal S2048x1024 .bf16) (i : Fin 2048) (f : Fin 1024) (b : Fin 2048) (hb : b.val = sourceOf rt i.val) :
    collect (F := Ideal) r y (ix2 i f) = if earlier rt i.val < 25 then y (ix2 b f) else (0 : ℝ) := by
  rw [ix2_eq_valueIdx i f, collect_at hr hrt y i f b hb]
  show (if earlier rt i.val < 25 then _ else FloatOps.ofBits (F := Ideal) .bf16 0x0000#16) = _
  rw [show FloatOps.ofBits (F := Ideal) .bf16 0x0000#16 = (0 : ℝ) from Ideal.ofBits_zero .bf16]
  rfl

include hrt hr hA hB in
/-- An entry of the kernel's result. -/
theorem kernel_entry (c : Dev nD) (i : Fin 2048) (f : Fin 1024) :
    (collect (routesOf m c) (yAll m : FVec Ideal S2048x1024 .bf16) : FVec Ideal S2048x1024 .f32) (ix2 i f)
      = if earlier rt i.val < 25 then ∑ k : Fin 1024, A (ix2 i k) * B (ix3 (⟨rt i.val, hrt _⟩ : Fin 64) k f) else (0 : ℝ) := by
  have hb : sourceOf rt i.val < 2048 := by unfold sourceOf; omega
  rw [collected_entry (fun j => hr c j) hrt (yAll m : FVec Ideal S2048x1024 .bf16) i f ⟨sourceOf rt i.val, hb⟩ rfl]
  by_cases he : earlier rt i.val < 25
  · rw [if_pos he, if_pos he]
    exact gathered_row m hrt hr hA hB i he _ rfl f
  · rw [if_neg he, if_neg he]

include hrt hr hA hB in
/-- The kernel's result. -/
theorem kernel_value (c : Dev nD) :
    (collect (routesOf m c) (yAll m : FVec Ideal S2048x1024 .bf16) : FVec Ideal S2048x1024 .f32) = routedProducts rt hrt A B := by
  funext j
  rw [ValueIdx.eq_ix2 j]
  exact kernel_entry m hrt hr hA hB c (j 0) (j 1)

end Cert.Proof

end
-- ==== Proof.ReferenceRanks.lean ====
/-
  What the reference counts and gathers: each token's rank among the earlier tokens of its expert, and its expert's matrix.
-/
module

public import proofs.«01_k».proof.Proof.Ranks
public import proofs.«01_k».proof.Proof.Gen.ReferenceIdeal.Run

@[expose] public section

set_option maxRecDepth 16384

noncomputable section

namespace Cert.Proof

open Cert.ReferenceIdeal Cert.ReferenceIdeal.Gen
open Idealize.ShloMosaic Idealize.ShloMosaic.ValueIdx Idealize.ShloMosaic.WordCmp Idealize.ShloMosaic.Routing

/-- Counting a property below a bound counts it up to the bound. -/
theorem count_below (p : ℕ → Prop) [DecidablePred p] (b n : ℕ) : Nat.count (fun q => p q ∧ q < b) n = Nat.count p (min n b) := by
  induction n with
  | zero => simp
  | succ n ih =>
    rw [Nat.count_succ, ih]
    by_cases h : n < b
    · rw [Nat.min_eq_left (by omega : n ≤ b), Nat.min_eq_left (by omega : n + 1 ≤ b), Nat.count_succ]
      simp [h]
    · rw [Nat.min_eq_right (by omega : b ≤ n), Nat.min_eq_right (by omega : b ≤ n + 1)]
      simp [h]

/-- A vector stood up as a column. -/
theorem column_at (v : IVec S2048 32) (i : Fin 2048) :
    broadcastInDim S2048x1 ![0] bcast_S2048_S2048x1_0 v (ix2 i (0 : Fin 1)) = v (ix1 i) := bcCol bcast_S2048_S2048x1_0 v i

/-- The pairs of a token and an earlier token of the same expert. -/
def earlierPairs (r : IVec S2048 32) : IVec S2048x2048 1 :=
  andi (cmpi .eq (broadcastInDim S2048x2048 ![0, 1] bcast_S1x2048_S2048x2048_0_1 (broadcastInDim S1x2048 ![1] bcast_S2048_S1x2048_1 r))
      (broadcastInDim S2048x2048 ![0, 1] bcast_S2048x1_S2048x2048_0_1 (broadcastInDim S2048x1 ![0] bcast_S2048_S2048x1_0 r)))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The tokens that their expert takes, as a column. -/
def taken (r : IVec S2048 32) : IVec S2048x1 1 :=
  cmpi .slt (broadcastInDim S2048x1 ![0] bcast_S2048_S2048x1_0
      (Host.reduce IntOp.addi (extui 32 (earlierPairs r) natLt_1_32) (constantI S_ 32 0#32) reducesTo_S2048x2048_S2048_d1 h_S_))
    (broadcastInDim S2048x1 ![] bcast_S_S2048x1 (constantI S_ 32 25#32))

/-- The experts' indices, a negative one counted from the end, as a column. -/
def experts (r : IVec S2048 32) : IVec S2048x1 32 :=
  broadcastInDim S2048x1 ![0] bcast_S2048_S2048x1_0
    (select (cmpi .slt r (broadcastInDim S2048 ![] bcast_S_S2048 (constantI S_ 32 0#32)))
      (addi r (broadcastInDim S2048 ![] bcast_S_S2048 (constantI S_ 32 64#32))) r)

variable {r : IVec S2048 32} {rt : ℕ → ℕ} (hr : ∀ i : Fin 2048, r (ix1 i) = BitVec.ofNat 32 (rt i.val)) (hrt : ∀ i, rt i < 64)

include hr hrt in
/-- The pairs that are marked. -/
theorem earlierPairs_at (i q : Fin 2048) : earlierPairs r (ix2 i q) = 1#1 ↔ rt q.val = rt i.val ∧ q.val < i.val := by
  unfold earlierPairs
  rw [andi_at, cmpi_at, cmpi_at]
  erw [bcCols bcast_S2048_S1x2048_1 bcast_S1x2048_S2048x2048_0_1 r i q, bcRows bcast_S2048_S2048x1_0 bcast_S2048x1_S2048x2048_0_1 r i q,
    bcCols bcast_S2048_S1x2048_1 bcast_S1x2048_S2048x2048_0_1 (iotaInDim S2048 32 0) i q,
    bcRows bcast_S2048_S2048x1_0 bcast_S2048x1_S2048x2048_0_1 (iotaInDim S2048 32 0) i q]
  rw [hr, hr]
  erw [iota1_ap q, iota1_ap i]
  have h1 := hrt i.val
  have h2 := hrt q.val
  have h3 := i.isLt
  have h4 := q.isLt
  rw [cmpi_eq_ofNat (w := 32) (by omega) (by omega), cmpi_slt_ofNat (w := 32) (by show _ < 2 ^ 31; omega) (by show _ < 2 ^ 31; omega), andi_ofBool,
    ofBool_eq_one_iff, Bool.and_eq_true, decide_eq_true_iff, decide_eq_true_iff]

include hr hrt in
/-- The number of marked pairs of a token. -/
theorem counted_at (i : Fin 2048) :
    Host.reduce IntOp.addi (extui 32 (earlierPairs r) natLt_1_32) (constantI S_ 32 0#32) reducesTo_S2048x2048_S2048_d1 h_S_ (ix1 i)
      = BitVec.ofNat 32 (earlier rt i.val) := by
  have h1 := i.isLt
  have hc := count_below (fun q => rt q = rt i.val) i.val 2048
  rw [Nat.min_eq_right (by omega : i.val ≤ 2048)] at hc
  unfold earlier
  rw [← hc]
  exact reduce_count (n := 2048) (m := 2048) (by omega) (earlierPairs r) natLt_1_32 reducesTo_S2048x2048_S2048_d1 h_S_ i
    (fun q => rt q = rt i.val ∧ q < i.val) (earlierPairs_at hr hrt i)

include hr hrt in
/-- An expert takes the tokens that fewer than 25 of its tokens come before. -/
theorem taken_at (i : Fin 2048) : taken r (ix2 i (0 : Fin 1)) = 1#1 ↔ earlier rt i.val < 25 := by
  unfold taken
  rw [cmpi_at]
  rw [column_at, counted_at hr hrt]
  erw [bc0 bcast_S_S2048x1]
  rw [constantI_at]
  have h1 := i.isLt
  have h2 := earlier_le rt i.val
  show IntOp.cmpi .slt (BitVec.ofNat 32 (earlier rt i.val)) (BitVec.ofNat 32 25) = 1#1 ↔ _
  rw [cmpi_slt_ofNat (w := 32) (by show _ < 2 ^ 31; omega) (by decide), ofBool_eq_one_iff, decide_eq_true_iff]

include hr hrt in
/-- An index that is not negative stays as it is. -/
theorem experts_at (i : Fin 2048) : experts r (ix2 i (0 : Fin 1)) = BitVec.ofNat 32 (rt i.val) := by
  unfold experts
  rw [column_at, select_at, cmpi_at]
  erw [bc0 bcast_S_S2048]
  have h1 := hrt i.val
  rw [constantI_at, hr]
  exact wrap_of_lt _ _ (by rw [toNat_ofNat_of_lt (w := 32) (by omega)]; show rt i.val < 2 ^ 31; omega)

/-- The gather of one matrix for each token reads the matrix that its index names. -/
theorem gather_matrix {α : Type} (x : S64x1024x1024.Idx → α) (idx : IVec S2048x1 32) (i : Fin 2048) (k f : Fin 1024) (b : Fin 64)
    (hb : idx (ix2 i (0 : Fin 1)) = BitVec.ofNat 32 b.val) :
    Host.gather gather_S64x1024x1024_S2048x1_S2048x1024x1024_12_0_n_n_0_1_110241024 x idx (ix3 i k f) = x (ix3 b k f) := by
  unfold Host.gather
  refine congrArg x (funext fun a => Fin.ext ?_)
  match a with
  | ⟨0, _⟩ =>
    have hs : gather_S64x1024x1024_S2048x1_S2048x1024x1024_12_0_n_n_0_1_110241024.siIdx (ix3 i k f) ⟨0, Nat.zero_lt_one⟩ = ix2 i (0 : Fin 1) := by
      funext a
      match a with
      | ⟨0, _⟩ => rfl
      | ⟨1, _⟩ => rfl
    show min (idx (gather_S64x1024x1024_S2048x1_S2048x1024x1024_12_0_n_n_0_1_110241024.siIdx (ix3 i k f) ⟨0, Nat.zero_lt_one⟩)).toInt.toNat (64 - 1) + 0 + 0 = b.val
    have := b.isLt
    rw [hs, hb, StableHlo.Predicate.toInt_ofNat_small _ (by omega)]
    omega
  | ⟨1, _⟩ =>
    show 0 + 0 + k.val = k.val
    omega
  | ⟨2, _⟩ =>
    show 0 + 0 + f.val = f.val
    omega

end Cert.Proof

end
-- ==== Proof.ReferenceDot.lean ====
/-
  The reference's batched product over the reals, entry by entry.
-/
module

public import proofs.«01_k».proof.Proof.Gen.ReferenceIdeal.Run
public import Idealize.ShloMosaic.Lib.Pointwise

@[expose] public section

set_option maxRecDepth 16384

noncomputable section

namespace Cert.Proof

open Cert.ReferenceIdeal Cert.ReferenceIdeal.Gen
open Idealize.ShloMosaic

/-- Each token's row times its own matrix. -/
theorem batched_at (x : FVec Ideal S2048x1024 .f32) (w : FVec Ideal S2048x1024x1024 .f32) (i : Fin 2048) (f : Fin 1024) :
    Host.dotGeneral (F := Ideal) dot_S2048x1024_S2048x1024x1024_S2048x1024_1_1_n_2_0_0 none x w (ix2 i f) = ∑ k : Fin 1024, x (ix2 i k) * w (ix3 i k f) := by
  pointwise

end Cert.Proof

end
-- ==== Proof.ReferenceValue.lean ====
/-
  The reference's result over the reals: a taken token's row is its row times its expert's matrix, another's is zero.
-/
module

public import proofs.«01_k».proof.Proof.KernelValue
public import proofs.«01_k».proof.Proof.ReferenceRanks
public import proofs.«01_k».proof.Proof.ReferenceDot

@[expose] public section

set_option maxRecDepth 16384

noncomputable section

namespace Cert.Proof

open Cert.ReferenceIdeal Cert.ReferenceIdeal.Gen
open Idealize.ShloMosaic Idealize.ShloMosaic.WordCmp Idealize.ShloMosaic.Routing

/-- A column spread over the features. -/
theorem wide_at {α : Type} (v : S2048x1.Idx → α) (i : Fin 2048) (f : Fin 1024) :
    broadcastInDim S2048x1024 ![0, 1] bcast_S2048x1_S2048x1024_0_1 v (ix2 i f) = v (ix2 i (0 : Fin 1)) :=
  broadcastInDim_apply _ bcast_S2048x1_S2048x1024_0_1 v _ _ fun a => by
    match a with
    | ⟨0, _⟩ => rfl
    | ⟨1, _⟩ => rfl

/-- The products of the tokens' rows and their experts' matrices. -/
def products (r : IVec S2048 32) (A : FVec Ideal S2048x1024 .bf16) (B : FVec Ideal S64x1024x1024 .bf16) : FVec Ideal S2048x1024 .f32 :=
  Host.dotGeneral dot_S2048x1024_S2048x1024x1024_S2048x1024_1_1_n_2_0_0 none (extf .f32 A bitsLt_bf16_f32)
    (Host.gather gather_S64x1024x1024_S2048x1_S2048x1024x1024_12_0_n_n_0_1_110241024 (extf .f32 B bitsLt_bf16_f32) (experts r))

/-- The reference's result as a function of its routes, rows and matrices. -/
def selected (r : IVec S2048 32) (A : FVec Ideal S2048x1024 .bf16) (B : FVec Ideal S64x1024x1024 .bf16) : FVec Ideal S2048x1024 .f32 :=
  select (broadcastInDim S2048x1024 ![0, 1] bcast_S2048x1_S2048x1024_0_1 (taken r)) (products r A B)
    (broadcastInDim S2048x1024 ![] bcast_S_S2048x1024 (id (constant S_ .f32 0x00000000#32)))

variable {r : IVec S2048 32} {rt : ℕ → ℕ} (hr : ∀ i : Fin 2048, r (ix1 i) = BitVec.ofNat 32 (rt i.val)) (hrt : ∀ i, rt i < 64)
variable (A : FVec Ideal S2048x1024 .bf16) (B : FVec Ideal S64x1024x1024 .bf16)

include hr in
/-- An entry of a token's product. -/
theorem products_at (i : Fin 2048) (f : Fin 1024) :
    products r A B (ix2 i f) = ∑ k : Fin 1024, A (ix2 i k) * B (ix3 (⟨rt i.val, hrt _⟩ : Fin 64) k f) := by
  unfold products
  refine (batched_at _ _ i f).trans (Finset.sum_congr rfl fun k _ => ?_)
  refine congrArg (A (ix2 i k) * ·) ?_
  exact gather_matrix _ (experts r) i k f ⟨rt i.val, hrt _⟩ (experts_at hr hrt i)

include hr in
/-- An entry of the reference's result. -/
theorem selected_at (i : Fin 2048) (f : Fin 1024) :
    selected r A B (ix2 i f)
      = if earlier rt i.val < 25 then ∑ k : Fin 1024, A (ix2 i k) * B (ix3 (⟨rt i.val, hrt _⟩ : Fin 64) k f) else (0 : ℝ) := by
  unfold selected
  rw [select_at, wide_at, products_at hr hrt A B i f]
  have hz : (broadcastInDim S2048x1024 ![] bcast_S_S2048x1024 (id (constant S_ .f32 0x00000000#32)) : FVec Ideal S2048x1024 .f32) (ix2 i f) = (0 : ℝ) :=
    (bc0 bcast_S_S2048x1024 _ _).trans (Ideal.ofBits_zero .f32)
  rw [hz]
  exact if_congr (taken_at hr hrt i) rfl rfl

include hr in
/-- The reference's result. -/
theorem selected_eq : selected r A B = routedProducts rt hrt A B := by
  funext j
  rw [ValueIdx.eq_ix2 j]
  exact selected_at hr hrt A B (j 0) (j 1)

end Cert.Proof

end
-- ==== Proof.Equal.lean ====
/-
  The kernel and the reference over the reals: one result from one set of arguments.
-/
module

public import proofs.«01_k».proof.Proof.Frames
public import proofs.«01_k».proof.Proof.InRange
public import proofs.«01_k».proof.Proof.ReferenceValue

@[expose] public section

set_option maxRecDepth 16384

noncomputable section

namespace Cert.Proof

open Idealize.ShloMosaic Idealize.ShloMosaic.TcCoe Idealize.SL.Sem

/-- The kernel's result on every device is the reference's. -/
theorem algebraic : Cert.algebraic_KernelIdeal_ReferenceIdeal_pre_routed_KernelIdeal := by
  intro m g m' g' hpre hargs
  obtain ⟨A, hA⟩ : ∃ A : FVec Ideal Cert.KernelIdeal.S2048x1024 .bf16,
      A = m' (((0 : Dev Cert.ReferenceIdeal.nD).tc : Thread Cert.ReferenceIdeal.nD Cert.ReferenceIdeal.τ).loc Cert.ReferenceIdeal.main_arg0) := ⟨_, rfl⟩
  obtain ⟨a, ha⟩ : ∃ a : IVec Cert.KernelIdeal.S2048x1 32,
      a = m' (((0 : Dev Cert.ReferenceIdeal.nD).tc : Thread Cert.ReferenceIdeal.nD Cert.ReferenceIdeal.τ).loc Cert.ReferenceIdeal.main_arg2) := ⟨_, rfl⟩
  obtain ⟨B, hB⟩ : ∃ B : FVec Ideal S64x1024x1024 .bf16,
      B = m' (((0 : Dev Cert.ReferenceIdeal.nD).tc : Thread Cert.ReferenceIdeal.nD Cert.ReferenceIdeal.τ).loc Cert.ReferenceIdeal.main_arg3) := ⟨_, rfl⟩
  have hmA : ∀ c : Dev Cert.KernelIdeal.nD, m ((c.tc : Thread Cert.KernelIdeal.nD Cert.KernelIdeal.τ).loc Cert.KernelIdeal.main_arg0) = A :=
    fun c => (hargs c).1.trans hA.symm
  have hma : ∀ c : Dev Cert.KernelIdeal.nD, m ((c.tc : Thread Cert.KernelIdeal.nD Cert.KernelIdeal.τ).loc Cert.KernelIdeal.main_arg2) = a :=
    fun c => (hargs c).2.2.1.trans ha.symm
  have hmB : ∀ c : Dev Cert.KernelIdeal.nD, m ((c.tc : Thread Cert.KernelIdeal.nD Cert.KernelIdeal.τ).loc Cert.KernelIdeal.main_arg3)
      = Layout.block ⟨3, ![8, 1024, 1024]⟩ ⟨3, ![64, 1024, 1024]⟩ 0 8 c B := fun c => by
    rw [hB]; exact (hargs c).2.2.2
  have hrt : ∀ i, routeOf a i < 64 := routeOf_lt (F := Ideal) _ _ a _ (by rw [← hma 0]; exact hpre 0)
  have hr : ∀ (c : Dev Cert.KernelIdeal.nD) (i : Fin 2048), routesOf m c (ix1 i) = BitVec.ofNat 32 (routeOf a i.val) := fun c i => by
    unfold routesOf
    rw [hma]
    exact routes_at a i
  refine ⟨routedProducts (routeOf a) hrt A B, ?_, ?_⟩
  · refine (θ_run Cert.KernelIdeal.defs _ _).mono (fun r h c => ⟨(h.1 c).1.trans ?_, (h.1 c).2⟩) (run_main (F := Ideal) m g)
    exact (v57_at21 m c).trans (kernel_value m hrt hr hmA hmB c)
  · refine (θ_run Cert.ReferenceIdeal.defs _ _).mono (fun r h => ⟨(h 0).1.trans ?_, (h 0).2⟩) (Cert.ReferenceIdeal.Value.run (F := Ideal) m' g')
    rw [← hA, ← ha, ← hB]
    exact selected_eq (fun i => routes_at a i) hrt A B

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts,
  factsPreK, factsPreR, frame_kernel, frame_kernelIdeal, frame_kernelIdeal_routed, frame_reference, frame_reference_routed,
  trivial, algebraic⟩

end Cert.Proof

end
